-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_theta_finite [hPre_tokens_and_theta_finite : Cert.Pre_tokens_and_theta_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_theta_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_theta_finite [hPre_tokens_and_theta_finite : Cert.Pre_tokens_and_theta_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_theta_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tokens_and_theta_finite [hKernelIdeal : Cert.KernelIdeal.Facts] [hPre_tokens_and_theta_finite : Cert.Pre_tokens_and_theta_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_theta_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tokens_and_theta_finite [hReferenceIdeal : Cert.ReferenceIdeal.Facts] [hPre_tokens_and_theta_finite : Cert.Pre_tokens_and_theta_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_theta_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv127" .f32 0x3C010204#32 ((1 / 127 : ℝ) : EReal)

def algebraic_KernelIdeal_ReferenceIdeal_pre_tokens_and_theta_finite [hKernelIdeal : Cert.KernelIdeal.Facts] [hReferenceIdeal : Cert.ReferenceIdeal.Facts] [hPre_tokens_and_theta_finite : Cert.Pre_tokens_and_theta_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_theta_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tokens_and_theta_finite : Cert.Pre_tokens_and_theta_finite.Facts),
    quiescent_Kernel (hKernel := hKernel)
    ∧ quiescent_KernelIdeal (hKernelIdeal := hKernelIdeal)
    ∧ quiescent_KernelIdeal_pre_tokens_and_theta_finite (hKernelIdeal := hKernelIdeal) (hPre_tokens_and_theta_finite := hPre_tokens_and_theta_finite)
    ∧ quiescent_ReferenceIdeal (hReferenceIdeal := hReferenceIdeal)
    ∧ quiescent_ReferenceIdeal_pre_tokens_and_theta_finite (hReferenceIdeal := hReferenceIdeal) (hPre_tokens_and_theta_finite := hPre_tokens_and_theta_finite)
    ∧ preserves_Kernel_KernelIdeal
    ∧ algebraic_KernelIdeal_ReferenceIdeal_pre_tokens_and_theta_finite (hKernelIdeal := hKernelIdeal) (hReferenceIdeal := hReferenceIdeal) (hPre_tokens_and_theta_finite := hPre_tokens_and_theta_finite)
-- ==== Pre_tokens_and_theta_finite.lean ====
abbrev S4x2048x32 : Shape := ⟨3, ![4, 2048, 32]⟩
abbrev S4x2048x128 : Shape := ⟨3, ![4, 2048, 128]⟩
abbrev S32x32 : Shape := ⟨2, ![32, 32]⟩
abbrev S_ : Shape := ⟨0, ![]⟩

class Facts : Prop where
  bcast_S_S4x2048x32 : S_.BroadcastsInDim S4x2048x32 (![] : Fin 0 → Fin S4x2048x32.rank)
  reducesTo_S4x2048x32_S_d0_1_2 : S4x2048x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S4x2048x32 .f32) (main_arg1 : FVec F S4x2048x128 .f32) (main_arg2 : FVec F S32x32 .f32) (main_arg3 : FVec F S_ .f32) : IVec S_ 1 :=
  let main_v0 : FVec F S4x2048x32 .f32 := Host.absf main_arg0
  let main_cst : FVec F S_ .f32 := constant S_ .f32 0x7F800000#32
  let main_v1 : FVec F S4x2048x32 .f32 := broadcastInDim S4x2048x32 ![] bcast_S_S4x2048x32 main_cst
  let main_v2 : IVec S4x2048x32 1 := cmpf .olt main_v0 main_v1
  let main_c : IVec S_ 1 := constantI S_ 1 1#1
  let main_v3 : IVec S_ 1 := (fun x v => Host.reduce IntOp.andi x v reducesTo_S4x2048x32_S_d0_1_2 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  main_v8
-- ==== Kernel.lean ====
abbrev S4x2048x32 : Shape := ⟨3, ![4, 2048, 32]⟩
abbrev S4x2048x128 : Shape := ⟨3, ![4, 2048, 128]⟩
abbrev S32x32 : Shape := ⟨2, ![32, 32]⟩
abbrev S_ : Shape := ⟨0, ![]⟩
abbrev S1x1 : Shape := ⟨2, ![1, 1]⟩
abbrev S1x2048x128 : Shape := ⟨3, ![1, 2048, 128]⟩
abbrev S1x2048x32 : Shape := ⟨3, ![1, 2048, 32]⟩
abbrev S2048x128 : Shape := ⟨2, ![2048, 128]⟩
abbrev S2048 : Shape := ⟨1, ![2048]⟩
abbrev S2048x1 : Shape := ⟨2, ![2048, 1]⟩
abbrev S2048x2048 : Shape := ⟨2, ![2048, 2048]⟩
abbrev S2048x17 : Shape := ⟨2, ![2048, 17]⟩
abbrev S1x2048x1 : Shape := ⟨3, ![1, 2048, 1]⟩
abbrev S1 : Shape := ⟨1, ![1]⟩
abbrev S1x1x1 : Shape := ⟨3, ![1, 1, 1]⟩
abbrev S1x2048 : Shape := ⟨2, ![1, 2048]⟩
abbrev S2048x32 : Shape := ⟨2, ![2048, 32]⟩

abbrev nBuf : Space → Nat
  | .hbm => 19
  | .vmem => 8
  | .smem => 0
  | _ => 0

abbrev bufTy : (tb : Table) → Fin (tcTables nBuf tb) → BufTy
  | .hbm, ⟨0, _⟩ => ⟨S4x2048x32, .f32⟩
  | .hbm, ⟨1, _⟩ => ⟨S4x2048x128, .f32⟩
  | .hbm, ⟨2, _⟩ => ⟨S32x32, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S4x2048x32, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x32, .f32⟩
  | .local _ .vmem, ⟨3, _⟩ => ⟨S1x2048x32, .f32⟩
  | .local _ .vmem, ⟨4, _⟩ => ⟨S32x32, .f32⟩
  | .local _ .vmem, ⟨5, _⟩ => ⟨S1x1, .f32⟩
  | .local _ .vmem, ⟨6, _⟩ => ⟨S1x2048x32, .f32⟩
  | .local _ .vmem, ⟨7, _⟩ => ⟨S1x2048x32, .f32⟩
  | _, _ => ⟨S4x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv127" => some ((1 / 127 : ℝ) : EReal)
  | _ => none
-- ==== ReferenceIdeal.lean ====
abbrev S4x2048x32 : Shape := ⟨3, ![4, 2048, 32]⟩
abbrev S4x2048x128 : Shape := ⟨3, ![4, 2048, 128]⟩
abbrev S32x32 : Shape := ⟨2, ![32, 32]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S4x2048x2048 : Shape := ⟨3, ![4, 2048, 2048]⟩
abbrev S4x2048x17 : Shape := ⟨3, ![4, 2048, 17]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x17x1 : Shape := ⟨4, ![4, 2048, 17, 1]⟩
abbrev S4x2048x17x3 : Shape := ⟨4, ![4, 2048, 17, 3]⟩
abbrev S2048x2048 : Shape := ⟨2, ![2048, 2048]⟩
abbrev S1x2048x2048 : Shape := ⟨3, ![1, 2048, 2048]⟩
abbrev S4x1x2048 : Shape := ⟨3, ![4, 1, 2048]⟩

abbrev nBuf : Space → Nat
  | .hbm => 354
  | .vmem => 0
  | .smem => 0
  | _ => 0

abbrev hbmTy0_0 (i : Nat) : BufTy := match i % 128 with
  | 0 => ⟨S4x2048x32, .f32⟩
  | 1 => ⟨S4x2048x128, .f32⟩
  | 2 => ⟨S32x32, .f32⟩
  | 3 => ⟨S_, .f32⟩
  | 4 => ⟨S_, .f32⟩
  | 5 => ⟨S4x2048, .f32⟩
  | 6 => ⟨S4x2048x1, .f32⟩
  | 7 => ⟨S_, .f32⟩
  | 8 => ⟨S4x2048x1, .f32⟩
  | 9 => ⟨S4x2048x1, .f32⟩
  | 10 => ⟨S4x2048x128, .f32⟩
  | 11 => ⟨S4x2048x128, .f32⟩
  | 12 => ⟨S_, .i32⟩
  | 13 => ⟨S_, .f32⟩
  | 14 => ⟨S4x2048, .f32⟩
  | 15 => ⟨S4x2048x1, .f32⟩
  | 16 => ⟨S_, .f32⟩
  | 17 => ⟨S4x2048x1, .f32⟩
  | 18 => ⟨S4x2048x1, .f32⟩
  | 19 => ⟨S4x2048x128, .f32⟩
  | 20 => ⟨S4x2048x128, .f32⟩
  | 21 => ⟨S4x2048x128, .f32⟩
  | 22 => ⟨S_, .f32⟩
  | 23 => ⟨S_, .f32⟩
  | 24 => ⟨S_, .f32⟩
  | 25 => ⟨S_, .f32⟩
  | 26 => ⟨S4x2048, .f32⟩
  | 27 => ⟨S4x2048x1, .f32⟩
  | 28 => ⟨S4x2048x1, .f32⟩
  | 29 => ⟨S4x2048x1, .f32⟩
  | 30 => ⟨S_, .f32⟩
  | 31 => ⟨S_, .i1⟩
  | 32 => ⟨S_, .f32⟩
  | 33 => ⟨S_, .f32⟩
  | 34 => ⟨S4x2048x1, .f32⟩
  | 35 => ⟨S4x2048x1, .f32⟩
  | 36 => ⟨S4x2048x1, .f32⟩
  | 37 => ⟨S_, .f32⟩
  | 38 => ⟨S4x2048x1, .f32⟩
  | 39 => ⟨S4x2048x1, .f32⟩
  | 40 => ⟨S4x2048x128, .f32⟩
  | 41 => ⟨S4x2048x128, .f32⟩
  | 42 => ⟨S4x128x2048, .f32⟩
  | 43 => ⟨S4x2048x2048, .f32⟩
  | 44 => ⟨S_, .f32⟩
  | 45 => ⟨S4x2048x2048, .f32⟩
  | 46 => ⟨S4x2048x2048, .f32⟩
  | 47 => ⟨S4x2048x17, .f32⟩
  | 48 => ⟨S4x2048x17, .i32⟩
  | 49 => ⟨S4, .i32⟩
  | 50 => ⟨S4x1x1, .i32⟩
  | 51 => ⟨S2048, .i32⟩
  | 52 => ⟨S1x2048x1, .i32⟩
  | 53 => ⟨S_, .f32⟩
  | 54 => ⟨S4x2048x2048, .f32⟩
  | 55 => ⟨S_, .i32⟩
  | 56 => ⟨S4x1x1, .i32⟩
  | 57 => ⟨S4x1x1, .i1⟩
  | 58 => ⟨S_, .i32⟩
  | 59 => ⟨S4x1x1, .i32⟩
  | 60 => ⟨S4x1x1, .i32⟩
  | 61 => ⟨S4x1x1, .i32⟩
  | 62 => ⟨S_, .i32⟩
  | 63 => ⟨S1x2048x1, .i32⟩
  | 64 => ⟨S1x2048x1, .i1⟩
  | 65 => ⟨S_, .i32⟩
  | 66 => ⟨S1x2048x1, .i32⟩
  | 67 => ⟨S1x2048x1, .i32⟩
  | 68 => ⟨S1x2048x1, .i32⟩
  | 69 => ⟨S_, .i32⟩
  | 70 => ⟨S4x2048x17, .i32⟩
  | 71 => ⟨S4x2048x17, .i1⟩
  | 72 => ⟨S_, .i32⟩
  | 73 => ⟨S4x2048x17, .i32⟩
  | 74 => ⟨S4x2048x17, .i32⟩
  | 75 => ⟨S4x2048x17, .i32⟩
  | 76 => ⟨S4x2048x17, .i32⟩
  | 77 => ⟨S4x2048x17, .i32⟩
  | 78 => ⟨S4x2048x17x1, .i32⟩
  | 79 => ⟨S4x2048x17x1, .i32⟩
  | 80 => ⟨S4x2048x17x1, .i32⟩
  | 81 => ⟨S4x2048x17x3, .i32⟩
  | 82 => ⟨S_, .f32⟩
  | 83 => ⟨S4x2048x17, .f32⟩
  | 84 => ⟨S4x2048x2048, .f32⟩
  | 85 => ⟨S4x2048x2048, .f32⟩
  | 86 => ⟨S4x2048x2048, .f32⟩
  | 87 => ⟨S4x2048x2048, .f32⟩
  | 88 => ⟨S_, .f32⟩
  | 89 => ⟨S4x2048x2048, .f32⟩
  | 90 => ⟨S4x2048x2048, .f32⟩
  | 91 => ⟨S2048x2048, .i32⟩
  | 92 => ⟨S2048x2048, .i32⟩
  | 93 => ⟨S_, .i32⟩
  | 94 => ⟨S2048x2048, .i32⟩
  | 95 => ⟨S2048x2048, .i32⟩
  | 96 => ⟨S2048x2048, .i1⟩
  | 97 => ⟨S2048x2048, .f32⟩
  | 98 => ⟨S1x2048x2048, .f32⟩
  | 99 => ⟨S4x2048x2048, .f32⟩
  | 100 => ⟨S4x2048x2048, .f32⟩
  | 101 => ⟨S_, .f32⟩
  | 102 => ⟨S4x2048, .f32⟩
  | 103 => ⟨S_, .f32⟩
  | 104 => ⟨S_, .f32⟩
  | 105 => ⟨S4x2048, .f32⟩
  | 106 => ⟨S4x2048, .f32⟩
  | 107 => ⟨S_, .f32⟩
  | 108 => ⟨S4x2048, .f32⟩
  | 109 => ⟨S4x2048, .f32⟩
  | 110 => ⟨S4x2048x1, .f32⟩
  | 111 => ⟨S4x2048x2048, .f32⟩
  | 112 => ⟨S4x2048x2048, .f32⟩
  | 113 => ⟨S4x1x2048, .f32⟩
  | 114 => ⟨S4x2048x2048, .f32⟩
  | 115 => ⟨S4x2048x2048, .f32⟩
  | 116 => ⟨S2048x2048, .i32⟩
  | 117 => ⟨S2048x2048, .i32⟩
  | 118 => ⟨S_, .i32⟩
  | 119 => ⟨S2048x2048, .i32⟩
  | 120 => ⟨S2048x2048, .i32⟩
  | 121 => ⟨S2048x2048, .i1⟩
  | 122 => ⟨S2048x2048, .f32⟩
  | 123 => ⟨S1x2048x2048, .f32⟩
  | 124 => ⟨S4x2048x2048, .f32⟩
  | 125 => ⟨S4x2048x2048, .f32⟩
  | 126 => ⟨S_, .f32⟩
  | 127 => ⟨S_, .f32⟩
  | _ => ⟨S4x2048x32, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4x2048x32, .f32⟩
  | 12 => ⟨S4x2048x32, .f32⟩
  | 13 => ⟨S4x2048x32, .f32⟩
  | 14 => ⟨S4x2048x32, .f32⟩
  | 15 => ⟨S32x32, .f32⟩
  | 16 => ⟨S4x2048x32, .f32⟩
  | 17 => ⟨S4x2048x32, .f32⟩
  | 18 => ⟨S_, .f32⟩
  | 19 => ⟨S4x2048x32, .f32⟩
  | 20 => ⟨S4x2048x32, .f32⟩
  | 21 => ⟨S4x2048x32, .f32⟩
  | 22 => ⟨S4x2048x32, .f32⟩
  | 23 => ⟨S4x2048x32, .f32⟩
  | 24 => ⟨S4x2048x32, .f32⟩
  | 25 => ⟨S4x2048x32, .f32⟩
  | 26 => ⟨S32x32, .f32⟩
  | 27 => ⟨S4x2048x32, .f32⟩
  | 28 => ⟨S4x2048x32, .f32⟩
  | 29 => ⟨S_, .f32⟩
  | 30 => ⟨S4x2048x32, .f32⟩
  | 31 => ⟨S4x2048x32, .f32⟩
  | 32 => ⟨S4x2048x32, .f32⟩
  | 33 => ⟨S4x2048x32, .f32⟩
  | 34 => ⟨S4x2048x32, .f32⟩
  | 35 => ⟨S4x2048x32, .f32⟩
  | 36 => ⟨S4x2048x32, .f32⟩
  | 37 => ⟨S32x32, .f32⟩
  | 38 => ⟨S4x2048x32, .f32⟩
  | 39 => ⟨S4x2048x32, .f32⟩
  | 40 => ⟨S_, .f32⟩
  | 41 => ⟨S4x2048x32, .f32⟩
  | 42 => ⟨S4x2048x32, .f32⟩
  | 43 => ⟨S4x2048x32, .f32⟩
  | 44 => ⟨S4x2048x32, .f32⟩
  | 45 => ⟨S4x2048x32, .f32⟩
  | 46 => ⟨S4x2048x32, .f32⟩
  | 47 => ⟨S4x2048x32, .f32⟩
  | 48 => ⟨S32x32, .f32⟩
  | 49 => ⟨S4x2048x32, .f32⟩
  | 50 => ⟨S4x2048x32, .f32⟩
  | 51 => ⟨S_, .f32⟩
  | 52 => ⟨S4x2048x32, .f32⟩
  | 53 => ⟨S4x2048x32, .f32⟩
  | 54 => ⟨S4x2048x32, .f32⟩
  | 55 => ⟨S_, .f32⟩
  | 56 => ⟨S4x2048x32, .f32⟩
  | 57 => ⟨S4x2048x32, .f32⟩
  | 58 => ⟨S4x2048x32, .f32⟩
  | 59 => ⟨S4x2048x32, .f32⟩
  | 60 => ⟨S_, .f32⟩
  | 61 => ⟨S4x2048x32, .f32⟩
  | 62 => ⟨S4x2048x32, .f32⟩
  | 63 => ⟨S4x2048x32, .f32⟩
  | 64 => ⟨S4x2048x32, .f32⟩
  | 65 => ⟨S4x2048x32, .f32⟩
  | 66 => ⟨S4x2048x32, .f32⟩
  | 67 => ⟨S4x2048x32, .f32⟩
  | 68 => ⟨S32x32, .f32⟩
  | 69 => ⟨S4x2048x32, .f32⟩
  | 70 => ⟨S4x2048x32, .f32⟩
  | 71 => ⟨S_, .f32⟩
  | 72 => ⟨S4x2048x32, .f32⟩
  | 73 => ⟨S4x2048x32, .f32⟩
  | 74 => ⟨S4x2048x32, .f32⟩
  | 75 => ⟨S4x2048x32, .f32⟩
  | 76 => ⟨S4x2048x32, .f32⟩
  | 77 => ⟨S4x2048x32, .f32⟩
  | 78 => ⟨S4x2048x32, .f32⟩
  | 79 => ⟨S32x32, .f32⟩
  | 80 => ⟨S4x2048x32, .f32⟩
  | 81 => ⟨S4x2048x32, .f32⟩
  | 82 => ⟨S_, .f32⟩
  | 83 => ⟨S4x2048x32, .f32⟩
  | 84 => ⟨S4x2048x32, .f32⟩
  | 85 => ⟨S4x2048x32, .f32⟩
  | 86 => ⟨S4x2048x32, .f32⟩
  | 87 => ⟨S4x2048x32, .f32⟩
  | 88 => ⟨S4x2048x32, .f32⟩
  | 89 => ⟨S4x2048x32, .f32⟩
  | 90 => ⟨S32x32, .f32⟩
  | 91 => ⟨S4x2048x32, .f32⟩
  | 92 => ⟨S4x2048x32, .f32⟩
  | 93 => ⟨S_, .f32⟩
  | 94 => ⟨S4x2048x32, .f32⟩
  | 95 => ⟨S4x2048x32, .f32⟩
  | 96 => ⟨S4x2048x32, .f32⟩
  | 97 => ⟨S4x2048x32, .f32⟩
  | 98 => ⟨S4x2048x32, .f32⟩
  | 99 => ⟨S4x2048x32, .f32⟩
  | 100 => ⟨S4x2048x32, .f32⟩
  | 101 => ⟨S32x32, .f32⟩
  | 102 => ⟨S4x2048x32, .f32⟩
  | 103 => ⟨S4x2048x32, .f32⟩
  | 104 => ⟨S_, .f32⟩
  | 105 => ⟨S4x2048x32, .f32⟩
  | 106 => ⟨S4x2048x32, .f32⟩
  | 107 => ⟨S4x2048x32, .f32⟩
  | 108 => ⟨S_, .f32⟩
  | 109 => ⟨S4x2048x32, .f32⟩
  | 110 => ⟨S4x2048x32, .f32⟩
  | 111 => ⟨S4x2048x32, .f32⟩
  | 112 => ⟨S4x2048x32, .f32⟩
  | 113 => ⟨S_, .f32⟩
  | 114 => ⟨S4x2048x32, .f32⟩
  | 115 => ⟨S4x2048x32, .f32⟩
  | 116 => ⟨S4x2048x32, .f32⟩
  | 117 => ⟨S4x2048x32, .f32⟩
  | 118 => ⟨S4x2048x32, .f32⟩
  | 119 => ⟨S4x2048x32, .f32⟩
  | 120 => ⟨S4x2048x32, .f32⟩
  | 121 => ⟨S32x32, .f32⟩
  | 122 => ⟨S4x2048x32, .f32⟩
  | 123 => ⟨S4x2048x32, .f32⟩
  | 124 => ⟨S_, .f32⟩
  | 125 => ⟨S4x2048x32, .f32⟩
  | 126 => ⟨S4x2048x32, .f32⟩
  | 127 => ⟨S4x2048x32, .f32⟩
  | _ => ⟨S4x2048x32, .f32⟩

abbrev hbmTy0_2 (i : Nat) : BufTy := match i % 128 with
  | 0 => ⟨S4x2048x32, .f32⟩
  | 1 => ⟨S4x2048x32, .f32⟩
  | 2 => ⟨S4x2048x32, .f32⟩
  | 3 => ⟨S4x2048x32, .f32⟩
  | 4 => ⟨S32x32, .f32⟩
  | 5 => ⟨S4x2048x32, .f32⟩
  | 6 => ⟨S4x2048x32, .f32⟩
  | 7 => ⟨S_, .f32⟩
  | 8 => ⟨S4x2048x32, .f32⟩
  | 9 => ⟨S4x2048x32, .f32⟩
  | 10 => ⟨S4x2048x32, .f32⟩
  | 11 => ⟨S4x2048x32, .f32⟩
  | 12 => ⟨S4x2048x32, .f32⟩
  | 13 => ⟨S4x2048x32, .f32⟩
  | 14 => ⟨S4x2048x32, .f32⟩
  | 15 => ⟨S32x32, .f32⟩
  | 16 => ⟨S4x2048x32, .f32⟩
  | 17 => ⟨S4x2048x32, .f32⟩
  | 18 => ⟨S_, .f32⟩
  | 19 => ⟨S4x2048x32, .f32⟩
  | 20 => ⟨S4x2048x32, .f32⟩
  | 21 => ⟨S4x2048x32, .f32⟩
  | 22 => ⟨S4x2048x32, .f32⟩
  | 23 => ⟨S4x2048x32, .f32⟩
  | 24 => ⟨S4x2048x32, .f32⟩
  | 25 => ⟨S4x2048x32, .f32⟩
  | 26 => ⟨S32x32, .f32⟩
  | 27 => ⟨S4x2048x32, .f32⟩
  | 28 => ⟨S4x2048x32, .f32⟩
  | 29 => ⟨S_, .f32⟩
  | 30 => ⟨S4x2048x32, .f32⟩
  | 31 => ⟨S4x2048x32, .f32⟩
  | 32 => ⟨S4x2048x32, .f32⟩
  | 33 => ⟨S_, .f32⟩
  | 34 => ⟨S4x2048x32, .f32⟩
  | 35 => ⟨S4x2048x32, .f32⟩
  | 36 => ⟨S4x2048x32, .f32⟩
  | 37 => ⟨S4x2048x32, .f32⟩
  | 38 => ⟨S_, .f32⟩
  | 39 => ⟨S4x2048x32, .f32⟩
  | 40 => ⟨S4x2048x32, .f32⟩
  | 41 => ⟨S4x2048x32, .f32⟩
  | 42 => ⟨S4x2048x32, .f32⟩
  | 43 => ⟨S4x2048x32, .f32⟩
  | 44 => ⟨S4x2048x32, .f32⟩
  | 45 => ⟨S4x2048x32, .f32⟩
  | 46 => ⟨S32x32, .f32⟩
  | 47 => ⟨S4x2048x32, .f32⟩
  | 48 => ⟨S4x2048x32, .f32⟩
  | 49 => ⟨S_, .f32⟩
  | 50 => ⟨S4x2048x32, .f32⟩
  | 51 => ⟨S4x2048x32, .f32⟩
  | 52 => ⟨S4x2048x32, .f32⟩
  | 53 => ⟨S4x2048x32, .f32⟩
  | 54 => ⟨S4x2048x32, .f32⟩
  | 55 => ⟨S4x2048x32, .f32⟩
  | 56 => ⟨S4x2048x32, .f32⟩
  | 57 => ⟨S32x32, .f32⟩
  | 58 => ⟨S4x2048x32, .f32⟩
  | 59 => ⟨S4x2048x32, .f32⟩
  | 60 => ⟨S_, .f32⟩
  | 61 => ⟨S4x2048x32, .f32⟩
  | 62 => ⟨S4x2048x32, .f32⟩
  | 63 => ⟨S4x2048x32, .f32⟩
  | 64 => ⟨S4x2048x32, .f32⟩
  | 65 => ⟨S4x2048x32, .f32⟩
  | 66 => ⟨S4x2048x32, .f32⟩
  | 67 => ⟨S4x2048x32, .f32⟩
  | 68 => ⟨S32x32, .f32⟩
  | 69 => ⟨S4x2048x32, .f32⟩
  | 70 => ⟨S4x2048x32, .f32⟩
  | 71 => ⟨S_, .f32⟩
  | 72 => ⟨S4x2048x32, .f32⟩
  | 73 => ⟨S4x2048x32, .f32⟩
  | 74 => ⟨S4x2048x32, .f32⟩
  | 75 => ⟨S4x2048x32, .f32⟩
  | 76 => ⟨S4x2048x32, .f32⟩
  | 77 => ⟨S4x2048x32, .f32⟩
  | 78 => ⟨S4x2048x32, .f32⟩
  | 79 => ⟨S32x32, .f32⟩
  | 80 => ⟨S4x2048x32, .f32⟩
  | 81 => ⟨S4x2048x32, .f32⟩
  | 82 => ⟨S_, .f32⟩
  | 83 => ⟨S4x2048x32, .f32⟩
  | 84 => ⟨S4x2048x32, .f32⟩
  | 85 => ⟨S4x2048x32, .f32⟩
  | 86 => ⟨S_, .f32⟩
  | 87 => ⟨S4x2048x32, .f32⟩
  | 88 => ⟨S4x2048x32, .f32⟩
  | 89 => ⟨S4x2048x32, .f32⟩
  | 90 => ⟨S4x2048x32, .f32⟩
  | 91 => ⟨S_, .f32⟩
  | 92 => ⟨S4x2048x32, .f32⟩
  | 93 => ⟨S4x2048x32, .f32⟩
  | 94 => ⟨S4x2048x32, .f32⟩
  | 95 => ⟨S_, .f32⟩
  | 96 => ⟨S4x2048x32, .f32⟩
  | 97 => ⟨S4x2048x32, .f32⟩
  | _ => ⟨S4x2048x32, .f32⟩

abbrev hbmTy (i : Nat) : BufTy := match i / 128 with
  | 0 => hbmTy0_0 i
  | 1 => hbmTy0_1 i
  | 2 => hbmTy0_2 i
  | _ => ⟨S4x2048x32, .f32⟩

abbrev bufTy : (tb : Table) → Fin (tcTables nBuf tb) → BufTy
  | .hbm, ⟨i, _⟩ => hbmTy i
  | _, _ => ⟨S4x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_cst_1 : Ref sig .tc := ⟨.hbm, 23, rfl⟩
abbrev main_call0_call0_v8 : Ref sig .tc := ⟨.hbm, 24, rfl⟩
abbrev main_call0_call0_cst_2 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_cst_3 : Ref sig .tc := ⟨.hbm, 30, rfl⟩
abbrev main_call0_call0_v13 : Ref sig .tc := ⟨.hbm, 31, rfl⟩
abbrev main_call0_call0_cst_4 : Ref sig .tc := ⟨.hbm, 32, rfl⟩
abbrev main_call0_call0_call0_v0 : Ref sig .tc := ⟨.hbm, 33, rfl⟩
abbrev main_call0_call0_call0_v1 : Ref sig .tc := ⟨.hbm, 34, rfl⟩
abbrev main_call0_v0 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_values : Ref sig .tc := ⟨.hbm, 47, rfl⟩
abbrev main_indices : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_3 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_c_6 : Ref sig .tc := ⟨.hbm, 62, rfl⟩
abbrev main_v25 : Ref sig .tc := ⟨.hbm, 63, rfl⟩
abbrev main_v26 : Ref sig .tc := ⟨.hbm, 64, rfl⟩
abbrev main_c_7 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_8 : Ref sig .tc := ⟨.hbm, 69, rfl⟩
abbrev main_v30 : Ref sig .tc := ⟨.hbm, 70, rfl⟩
abbrev main_v31 : Ref sig .tc := ⟨.hbm, 71, rfl⟩
abbrev main_c_9 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_10 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_11 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_12 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_13 : Ref sig .tc := ⟨.hbm, 101, rfl⟩
abbrev main_v57 : Ref sig .tc := ⟨.hbm, 102, rfl⟩
abbrev main_cst_14 : Ref sig .tc := ⟨.hbm, 103, rfl⟩
abbrev main_call1_v0 : Ref sig .tc := ⟨.hbm, 104, rfl⟩
abbrev main_call1_v1 : Ref sig .tc := ⟨.hbm, 105, rfl⟩
abbrev main_v58 : Ref sig .tc := ⟨.hbm, 106, rfl⟩
abbrev main_cst_15 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_16 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_v76 : Ref sig .tc := ⟨.hbm, 136, rfl⟩
abbrev main_cst_17 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_18 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_19 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_20 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_cst_21 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_22 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_23 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_cst_24 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_cst_25 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_cst_26 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_cst_27 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_cst_28 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_cst_29 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_cst_30 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_cst_31 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_cst_32 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_cst_33 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_34 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_cst_35 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_cst_36 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_cst_37 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_cst_38 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_v255 : Ref sig .tc := ⟨.hbm, 337, rfl⟩
abbrev main_cst_39 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_cst_40 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_cst_41 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_call3_cst : Ref sig .tc := ⟨.hbm, 351, rfl⟩
abbrev main_call3_v0 : Ref sig .tc := ⟨.hbm, 352, rfl⟩
abbrev main_v266 : Ref sig .tc := ⟨.hbm, 353, rfl⟩

abbrev nD : Nat := 1
abbrev τ : Topo := Topo.v7x

variable {F : FTy → Type} [FloatOps F]
-- ==== Proof.IdealBody.lean ====
/-
  The idealized kernel's body: one run of it on a batch's four blocks, and the run of the whole program.

  The body has no loop and one branch, the tie search, whose both sides compute only. The value it stores is
  written here as a chain of definitions over the body's own expressions (the correlation, the table of the
  largest distinct values, the count search, the tie search, the normalised adjacency, the integration steps);
  the branch becomes a choice between two values.
-/
module

public import proofs.«01_k».proof.Proof.Gen.KernelIdeal.Frame
public import proofs.«01_k».proof.Proof.Gen.KernelIdeal.Skeleton
public import Idealize.ShloMosaic.Lib.Claim

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The value of one run -/

/-- The correlation matrix of a batch's block. -/
def corr (x : Vec F S1x2048x128 .f32) : FVec F S2048x2048 .f32 := k0_pay44 x

/-- The column numbers. -/
def cols : IVec S2048x2048 32 := iota .tc S2048x2048 32 [1] iota_S2048x2048_d1_w32

/-- The place numbers 0 to 16 of the table of maxima. -/
def places : IVec S2048x17 32 := iota .tc S2048x17 32 [1] iota_S2048x17_d1_w32

/-- The table of each row's 17 largest distinct values. -/
def table (x : Vec F S1x2048x128 .f32) : FVec F S2048x17 .f32 :=
  k0_pay57 (corr x) (k0_pay45 x) (k0_pay46 x) (k0_pay47 x)
    (k0_pay49 (corr x) (k0_pay48 x)) (k0_pay50 (corr x) (k0_pay48 x)) (k0_pay51 (corr x) (k0_pay48 x))
    (k0_pay52 (corr x) (k0_pay48 x)) (k0_pay53 (corr x) (k0_pay48 x)) (k0_pay54 (corr x) (k0_pay48 x))
    (k0_pay55 (corr x) (k0_pay48 x)) (k0_pay56 (corr x) (k0_pay48 x))

/-- The count search of table `w` over values `v`, cut where the printed program cuts it: after its second and its
    fourth step. -/
def hi2 (v : FVec F S2048x2048 .f32) (w : FVec F S2048x17 .f32) : IVec S2048x1 32 :=
  k0_pay68 v w places k0_pay58 k0_pay59 k0_pay60 k0_pay61
def lo2 (v : FVec F S2048x2048 .f32) (w : FVec F S2048x17 .f32) : IVec S2048x1 32 :=
  k0_pay69 v w places k0_pay58 k0_pay59 k0_pay60 k0_pay61
def mid2 (v : FVec F S2048x2048 .f32) (w : FVec F S2048x17 .f32) : IVec S2048x1 32 :=
  k0_pay70 v w places k0_pay58 k0_pay59 k0_pay60 k0_pay61
def at2 (v : FVec F S2048x2048 .f32) (w : FVec F S2048x17 .f32) : FVec F S2048 .f32 :=
  k0_pay71 v w places k0_pay58 k0_pay59 k0_pay60 k0_pay61
def lo4 (v : FVec F S2048x2048 .f32) (w : FVec F S2048x17 .f32) : IVec S2048x1 32 :=
  k0_pay77 v w places (hi2 v w) (lo2 v w) (mid2 v w) (at2 v w)
def mid4 (v : FVec F S2048x2048 .f32) (w : FVec F S2048x17 .f32) : IVec S2048x1 32 :=
  k0_pay78 v w places (hi2 v w) (lo2 v w) (mid2 v w) (at2 v w)
def cnt4 (v : FVec F S2048x2048 .f32) (w : FVec F S2048x17 .f32) : IVec S2048x1 32 :=
  k0_pay79 v w places (hi2 v w) (lo2 v w) (mid2 v w) (at2 v w)

/-- The threshold: the value at place 17 of the row in descending order. -/
def thr (v : FVec F S2048x2048 .f32) (w : FVec F S2048x17 .f32) : FVec F S2048x1 .f32 :=
  k0_pay81 w places (lo4 v w) (mid4 v w) (cnt4 v w) 17#32
/-- How many of the elements equal to the threshold are kept. -/
def room (v : FVec F S2048x2048 .f32) (w : FVec F S2048x17 .f32) : IVec S2048x1 32 :=
  k0_pay83 v w places (lo4 v w) (mid4 v w) (cnt4 v w) 17#32
/-- Whether more elements equal the threshold than are kept. -/
def over (v : FVec F S2048x2048 .f32) (w : FVec F S2048x17 .f32) : IVec S2048x1 1 :=
  k0_pay84 v w places (lo4 v w) (mid4 v w) (cnt4 v w) 17#32
/-- The maximum over all rows of `over`, as a float. -/
def anyOver (v : FVec F S2048x2048 .f32) (w : FVec F S2048x17 .f32) : FVec F S1x1x1 .f32 :=
  k0_pay85 v w places (lo4 v w) (mid4 v w) (cnt4 v w) 17#32

/-- The tie search over columns `k` for threshold `t` and room `s`, cut where the printed program cuts it. -/
def tie1a (v : FVec F S2048x2048 .f32) (k : IVec S2048x2048 32) (t : FVec F S2048x1 .f32) (s : IVec S2048x1 32) : IVec S2048x1 32 := k0_pay11 v k t s
def tie1b (v : FVec F S2048x2048 .f32) (k : IVec S2048x2048 32) (t : FVec F S2048x1 .f32) (s : IVec S2048x1 32) : IVec S2048x1 1 := k0_pay13 v k t s
def tie1c (v : FVec F S2048x2048 .f32) (k : IVec S2048x2048 32) (t : FVec F S2048x1 .f32) (s : IVec S2048x1 32) : IVec S2048x1 32 := k0_pay14 v k t s
def tie1d (v : FVec F S2048x2048 .f32) (k : IVec S2048x2048 32) (t : FVec F S2048x1 .f32) (s : IVec S2048x1 32) : IVec S2048x1 32 := k0_pay15 v k t s
def tie2a (v : FVec F S2048x2048 .f32) (k : IVec S2048x2048 32) (t : FVec F S2048x1 .f32) (s : IVec S2048x1 32) : IVec S2048x1 32 :=
  k0_pay27 v k t s (tie1a v k t s) (tie1b v k t s) (tie1c v k t s) (tie1d v k t s)
def tie2b (v : FVec F S2048x2048 .f32) (k : IVec S2048x2048 32) (t : FVec F S2048x1 .f32) (s : IVec S2048x1 32) : IVec S2048x1 32 :=
  k0_pay28 v k t s (tie1a v k t s) (tie1b v k t s) (tie1c v k t s) (tie1d v k t s)
def tie2c (v : FVec F S2048x2048 .f32) (k : IVec S2048x2048 32) (t : FVec F S2048x1 .f32) (s : IVec S2048x1 32) : IVec S2048x1 32 :=
  k0_pay29 v k t s (tie1a v k t s) (tie1b v k t s) (tie1c v k t s) (tie1d v k t s)
def tie3a (v : FVec F S2048x2048 .f32) (k : IVec S2048x2048 32) (t : FVec F S2048x1 .f32) (s : IVec S2048x1 32) : IVec S2048x1 32 :=
  k0_pay40 v k t s (tie2a v k t s) (tie2b v k t s) (tie2c v k t s) 1#32
def tie3b (v : FVec F S2048x2048 .f32) (k : IVec S2048x2048 32) (t : FVec F S2048x1 .f32) (s : IVec S2048x1 32) : IVec S2048x1 32 :=
  k0_pay41 v k t s (tie2a v k t s) (tie2b v k t s) (tie2c v k t s) 1#32
def tie3c (v : FVec F S2048x2048 .f32) (k : IVec S2048x2048 32) (t : FVec F S2048x1 .f32) (s : IVec S2048x1 32) : IVec S2048x1 32 :=
  k0_pay42 v k t s (tie2a v k t s) (tie2b v k t s) (tie2c v k t s) 1#32
/-- What the tie search returns. -/
def tieEnd (v : FVec F S2048x2048 .f32) (k : IVec S2048x2048 32) (t : FVec F S2048x1 .f32) (s : IVec S2048x1 32) : IVec S2048x1 32 :=
  k0_pay87 v k t s (tie3a v k t s) (tie3b v k t s) (tie3c v k t s) (k0_pay43 t)

/-- What the branch leaves: the tie search's result where some row is over, the last column elsewhere. -/
def branch (v : FVec F S2048x2048 .f32) (k : IVec S2048x2048 32) (t : FVec F S2048x1 .f32) (s : IVec S2048x1 32) (g : FVec F S1x1x1 .f32) : IVec S2048x1 32 :=
  if Scalar.cmpi .ne (Scalar.extui (Scalar.cmpf .ogt (k0_pay86 g) (Scalar.ofBits .f32 0x00000000#32)) : BitVec 32) 0#32 = 1#1 then tieEnd v k t s else k0_pay88

/-- The normalised adjacency from the values `v`. -/
def adjOf (v : FVec F S2048x2048 .f32) (w : FVec F S2048x17 .f32) : FVec F S2048x2048 .f32 :=
  k0_pay89 v cols (thr v w) (over v w) (branch v cols (thr v w) (room v w) (anyOver v w))
/-- Its product with a batch's tokens. -/
def adjTokOf (v : FVec F S2048x2048 .f32) (w : FVec F S2048x17 .f32) (y : Vec F S1x2048x32 .f32) : FVec F S2048x32 .f32 :=
  k0_pay92 v cols (thr v w) (over v w) (branch v cols (thr v w) (room v w) (anyOver v w)) y

/-- The integration from adjacency `a`, coefficient `c`, weights `h`, tokens `y` and the first product `p`. -/
def y1 (a : FVec F S2048x2048 .f32) (c : F .f32) (h : Vec F S32x32 .f32) (y p : FVec F S2048x32 .f32) : FVec F S2048x32 .f32 := k0_pay93 a c h y p
def y1b (a : FVec F S2048x2048 .f32) (c : F .f32) (h : Vec F S32x32 .f32) (y p : FVec F S2048x32 .f32) : FVec F S2048x32 .f32 := k0_pay95 a c h y p
def y1c (a : FVec F S2048x2048 .f32) (c : F .f32) (h : Vec F S32x32 .f32) (y p : FVec F S2048x32 .f32) : FVec F S2048x32 .f32 := k0_pay96 a c h y p
def y2 (a : FVec F S2048x2048 .f32) (c : F .f32) (h : Vec F S32x32 .f32) (y p : FVec F S2048x32 .f32) : FVec F S2048x32 .f32 :=
  k0_pay97 a c h (y1 a c h y p) (y1b a c h y p) (y1c a c h y p)
def y2b (a : FVec F S2048x2048 .f32) (c : F .f32) (h : Vec F S32x32 .f32) (y p : FVec F S2048x32 .f32) : FVec F S2048x32 .f32 :=
  k0_pay98 a c h (y1 a c h y p) (y1b a c h y p) (y1c a c h y p)
def y3 (a : FVec F S2048x2048 .f32) (c : F .f32) (h : Vec F S32x32 .f32) (y p : FVec F S2048x32 .f32) : FVec F S2048x32 .f32 :=
  k0_pay99 a c h (y2 a c h y p) (y2b a c h y p)
def y3b (a : FVec F S2048x2048 .f32) (c : F .f32) (h : Vec F S32x32 .f32) (y p : FVec F S2048x32 .f32) : FVec F S2048x32 .f32 :=
  k0_pay100 a c h (y2 a c h y p) (y2b a c h y p)
def y3c (a : FVec F S2048x2048 .f32) (c : F .f32) (h : Vec F S32x32 .f32) (y p : FVec F S2048x32 .f32) : FVec F S2048x32 .f32 :=
  k0_pay101 a c h (y2 a c h y p) (y2b a c h y p)
/-- Four steps and the final cut at zero. -/
def steps (a : FVec F S2048x2048 .f32) (c : F .f32) (h : Vec F S32x32 .f32) (y p : FVec F S2048x32 .f32) : FVec F S2048x32 .f32 :=
  k0_pay102 a c h (y3 a c h y p) (y3b a c h y p) (y3c a c h y p)

/-- The block the body stores, from the four blocks it loads: the correlation's input, the tokens, the weights and the
    coefficient. -/
def stored (x : Vec F S1x2048x128 .f32) (y : Vec F S1x2048x32 .f32) (h : Vec F S32x32 .f32) (c : Vec F S1x1 .f32) : Vec F S1x2048x32 .f32 :=
  k0_pay1 (steps (adjOf (corr x) (table x)) (k0_pay90 c) h (k0_pay91 y) (adjTokOf (corr x) (table x) y))

/-! ## The body's triple -/

set_option maxHeartbeats 4000000 in
/-- The part of the body with the branch, the branch as a value. -/
theorem part10_eq (i : grid0.Coords) (arg1 : Memref sig .tc .vmem S1x2048x128 .f32) (harg1 : arg1.IsWhole) (arg2 : Memref sig .tc .vmem S1x2048x32 .f32) (harg2 : arg2.IsWhole) (arg3 : Memref sig .tc .vmem S32x32 .f32) (harg3 : arg3.IsWhole) (arg4 : Memref sig .tc .vmem S1x1 .f32) (harg4 : arg4.IsWhole) (arg5 : Memref sig .tc .vmem S1x2048x32 .f32) (harg5 : arg5.IsWhole) (v20 : FVec F S2048x2048 .f32) (v21 : IVec S2048x2048 32) (v233 : FVec F S2048x1 .f32) (v254 : IVec S2048x1 32) (v261 : IVec S2048x1 1) (v267 : FVec F S1x1x1 .f32) :
    k0_part10 i arg1 harg1 arg2 harg2 arg3 harg3 arg4 harg4 arg5 harg5 v20 v21 v233 v254 v261 v267 = (do
      let v305 : Vec F S1x1 .f32 ← Prog.lift (.load arg4 (Rect.unit (s := S1x1) ![0, 0] S1x1.size inb_S1x1_S1x1_0_0).toLoadRect (View.loadsAt_vmem h_S1x1))
      let v307 : Vec F S32x32 .f32 ← Prog.lift (.load arg3 (Rect.unit (s := S32x32) ![0, 0] S32x32.size inb_S32x32_S32x32_0_0).toLoadRect (View.loadsAt_vmem h_S32x32))
      let v308 : Vec F S1x2048x32 .f32 ← Prog.lift (.load arg2 (Rect.unit (s := S1x2048x32) ![0, 0, 0] S1x2048x32.size inb_S1x2048x32_S1x2048x32_0_0_0).toLoadRect (View.loadsAt_vmem h_S1x2048x32))
      pure ⟨k0_pay89 v20 v21 v233 v261 (branch v20 v21 v233 v254 v267), k0_pay90 v305, v307, k0_pay91 v308, k0_pay92 v20 v21 v233 v261 (branch v20 v21 v233 v254 v267) v308⟩ :
        Prog (TpuEff nD τ sig (Elt F) Λ₀ .tc) (Σ' (v304 : FVec F S2048x2048 .f32) (v306 : F .f32) (v307 : Vec F S32x32 .f32) (v309 : FVec F S2048x32 .f32), FVec F S2048x32 .f32)) := by
  simp only [k0_part10_eq_skeleton]
  unfold k0_part10_skel branch
  by_cases h : Scalar.cmpi .ne (Scalar.extui (Scalar.cmpf .ogt (k0_pay86 v267) (Scalar.ofBits .f32 0x00000000#32)) : BitVec 32) 0#32 = 1#1
  · simp only [if_pos h, k0_part1_eq_skeleton, k0_part2_eq_skeleton, k0_part3_eq_skeleton]
    unfold k0_part1_skel k0_part2_skel k0_part3_skel
    unfold tieEnd tie3a tie3b tie3c tie2a tie2b tie2c tie1a tie1b tie1c tie1d
    simp only [pure_bind]
  · simp only [if_neg h]
    rfl

/-- The buffer's one store, its whole extent. -/
abbrev full : Rect S1x2048x32 := Rect.unit (s := S1x2048x32) ![0, 0, 0] S1x2048x32.size inb_S1x2048x32_S1x2048x32_0_0_0

/-- A load of a whole block. -/
abbrev ldX (x : Vec F S1x2048x128 .f32) : Vec F S1x2048x128 .f32 := View.ld x (Rect.unit (s := S1x2048x128) ![0, 0, 0] S1x2048x128.size inb_S1x2048x128_S1x2048x128_0_0_0)
abbrev ldY (x : Vec F S1x2048x32 .f32) : Vec F S1x2048x32 .f32 := View.ld x full
abbrev ldH (x : Vec F S32x32 .f32) : Vec F S32x32 .f32 := View.ld x (Rect.unit (s := S32x32) ![0, 0] S32x32.size inb_S32x32_S32x32_0_0)
abbrev ldC (x : Vec F S1x1 .f32) : Vec F S1x1 .f32 := View.ld x (Rect.unit (s := S1x1) ![0, 0] S1x1.size inb_S1x1_S1x1_0_0)

/-- What the result's staging buffer holds after the body. -/
def outBlk (x0 : Vec F S1x2048x128 .f32) (x1 : Vec F S1x2048x32 .f32) (x2 : Vec F S32x32 .f32) (x3 : Vec F S1x1 .f32) : Vec F S1x2048x32 .f32 :=
  View.canon [⟨full, stored (ldX x0) (ldY x1) (ldH x2) (ldC x3)⟩]

/-- The one store covers the buffer. -/
theorem covers (p0 : Vec F S1x2048x32 .f32) (y : S1x2048x32.Idx) :
    ∃ pc ∈ ([⟨full, p0⟩] : List (View.Piece (Elt F) S1x2048x32 .f32)), y ∈ pc.1.set :=
  View.cover_of_tiled [⟨full, p0⟩] S1x2048x32.size (by rfl) y

attribute [local irreducible] k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 in
set_option maxHeartbeats 400000000 in
/-- The body on whole staging buffers: the inputs at `x0` to `x3` and the result's at anything, it runs to its end with the
    inputs unchanged and the result's buffer at `outBlk`. -/
theorem body_run (c : Dev nD) (E : Set ℕ) (i : grid0.Coords) (arg1 : Memref sig .tc .vmem S1x2048x128 .f32) (harg1 : arg1.IsWhole) (arg2 : Memref sig .tc .vmem S1x2048x32 .f32) (harg2 : arg2.IsWhole) (arg3 : Memref sig .tc .vmem S32x32 .f32) (harg3 : arg3.IsWhole) (arg4 : Memref sig .tc .vmem S1x1 .f32) (harg4 : arg4.IsWhole) (arg5 : Memref sig .tc .vmem S1x2048x32 .f32) (harg5 : arg5.IsWhole)
    (x0 : Vec F S1x2048x128 .f32) (x1 : Vec F S1x2048x32 .f32) (x2 : Vec F S32x32 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__var_pde_kernel i arg1 harg1 arg2 harg2 arg3 harg3 arg4 harg4 arg5 harg5) K := by
  simp only [cc0__var_pde_kernel_eq_skeleton]; unfold cc0__var_pde_kernel_skel
  simp only [k0_part14_eq_skeleton]; unfold k0_part14_skel
  simp only [k0_part4_eq_skeleton]; unfold k0_part4_skel
  simp only [k0_part5_eq_skeleton, k0_part6_eq_skeleton, k0_part7_eq_skeleton, k0_part8_eq_skeleton, k0_part9_eq_skeleton, k0_part11_eq_skeleton, k0_part12_eq_skeleton, k0_part13_eq_skeleton]
  change _ ⊢ wp frame (wpE (defs₀ (F := F)) Variants.none c none) E _ K
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  simp only [part10_eq]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (covers _)).trans ?_
  unfold outBlk
  change _ = View.canon [⟨full, stored
    (View.readAt (Elt F) arg1.view (Rect.unit (s := S1x2048x128) ![0, 0, 0] S1x2048x128.size inb_S1x2048x128_S1x2048x128_0_0_0).toLoadRect f0)
    (View.readAt (Elt F) arg2.view (Rect.unit (s := S1x2048x32) ![0, 0, 0] S1x2048x32.size inb_S1x2048x32_S1x2048x32_0_0_0).toLoadRect f1)
    (View.readAt (Elt F) arg3.view (Rect.unit (s := S32x32) ![0, 0] S32x32.size inb_S32x32_S32x32_0_0).toLoadRect f2)
    (View.readAt (Elt F) arg4.view (Rect.unit (s := S1x1) ![0, 0] S1x1.size inb_S1x1_S1x1_0_0).toLoadRect f3)⟩]
  rfl

/-! ## The pipeline's proof data -/

/-- On device `c`: the arrays as the region finds them; after the body at point `t` each input's buffer at its block and
    the result's at `outBlk` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- After a step the window of rows holds the block it held before. -/
theorem after_0 (c : Dev nD) (t : Fin cfg0.N) : (dats m 0 c).after 0 t = iblk m c 0 t := by dsimp only [dats]
/-- So does the window of tokens. -/
theorem after_1 (c : Dev nD) (t : Fin cfg0.N) : (dats m 0 c).after 1 t = iblk m c 1 t := by dsimp only [dats]
/-- So does the window of weights. -/
theorem after_2 (c : Dev nD) (t : Fin cfg0.N) : (dats m 0 c).after 2 t = iblk m c 2 t := by dsimp only [dats]
/-- So does the window of the coefficient. -/
theorem after_3 (c : Dev nD) (t : Fin cfg0.N) : (dats m 0 c).after 3 t = iblk m c 3 t := by dsimp only [dats]
/-- The output window holds what the step stores. -/
theorem after_4 (c : Dev nD) (t : Fin cfg0.N) :
    (dats m 0 c).after 4 t = outBlk (iblk m c 0 t) (iblk m c 1 t) (iblk m c 2 t) (iblk m c 3 t) := by dsimp only [dats]

/-- Before a step the window of rows holds the block of its argument. -/
theorem before_0 (c : Dev nD) (t : Fin cfg0.N) (d) : (dats m 0 c).before 0 t d = iblk m c 0 t :=
  before0_0_of m (dats m 0 c) (A_eq m c 0) (after_0 m c) t d
/-- So does the window of tokens. -/
theorem before_1 (c : Dev nD) (t : Fin cfg0.N) (d) : (dats m 0 c).before 1 t d = iblk m c 1 t :=
  before0_1_of m (dats m 0 c) (A_eq m c 1) (after_1 m c) t d
/-- So does the window of weights. -/
theorem before_2 (c : Dev nD) (t : Fin cfg0.N) (d) : (dats m 0 c).before 2 t d = iblk m c 2 t :=
  before0_2_of m (dats m 0 c) (A_eq m c 2) (after_2 m c) t d
/-- So does the window of the coefficient. -/
theorem before_3 (c : Dev nD) (t : Fin cfg0.N) (d) : (dats m 0 c).before 3 t d = iblk m c 3 t :=
  before0_3_of m (dats m 0 c) (A_eq m c 3) (after_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point of the grid. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body the pipeline calls at point `t`. -/
theorem defs_row (t : Fin cfg0.N) :
    defs₀ (F := F) .tc cfg0.body (cfg0.bodyArgs t (cfg0.slots t)) = bodyAt0 t := by
  unfold defs₀; rw [Defs.onTc_tc]

/-- The pipeline's obligation on its body. -/
theorem obligation (c : Dev nD) : BodyObligation (dats (F := F) m 0 c) (defs₀ (F := F)) Variants.none () Set.univ := fun t => by
  rw [bigSep_W0, bigSep_W0, defs_row]
  exact triple_restated (body_at m c t) rfl .rfl fun _ => .rfl

/-! ## The run of the program -/

set_option backward.isDefEq.respectTransparency.types false in
set_option maxHeartbeats 800000 in
/-- Every execution ends, each array of the pipeline at what the proof data compute, every other buffer as the region found
    it, every semaphore counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same without the counters. -/
theorem run : θ_run defs (onTc (τ := τ) (main (F := F))) (s₀ m ρ) (Pipeline.FramePost cfgs (dats m) 0 (V m)) :=
  (θ_run defs _ _).mono (fun _ h => h.1) (run_quiet m ρ)

/-- The frame: every execution ends with the arguments unchanged and every semaphore counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiet m ρ))

end Cert.KernelIdeal.Body

end
-- ==== Proof.Normal.lean ====
/- Correlation of rows of extended reals: what a row becomes once centred and divided by its deviation, whichever of two
   ways the deviation is computed, and a bound of the correlations. Plain mathematics: no program is mentioned here. -/
module

public import Idealize.ShloMosaic.PureOps.Ideal
public import Idealize.ShloMosaic.Lib.IdealHost

@[expose] public section

noncomputable section

namespace Cert.Normal

open Idealize.ShloMosaic

/-- An extended real that is infinite, and one that is real. -/
def Inf (x : EReal) : Prop := x = ⊤ ∨ x = ⊥
def IsReal (x : EReal) : Prop := ∃ a : ℝ, x = (a : EReal)

/-- A value is infinite or real. -/
theorem inf_or_real (x : EReal) : Inf x ∨ IsReal x := by
  induction x with
  | bot => exact Or.inl (Or.inr rfl)
  | coe a => exact Or.inr ⟨a, rfl⟩
  | top => exact Or.inl (Or.inl rfl)

/-- A sum with an infinity is infinite. -/
theorem Inf.add {x : EReal} (h : Inf x) (y : EReal) : Inf (x + y) := by
  rcases h with rfl | rfl
  · induction y with
    | bot => exact Or.inr rfl
    | coe a => exact Or.inl (EReal.top_add_coe a)
    | top => exact Or.inl rfl
  · exact Or.inr (EReal.bot_add y)

/-- The negation of an infinity is infinite. -/
theorem Inf.neg {x : EReal} (h : Inf x) : Inf (-x) := by
  rcases h with rfl | rfl
  · exact Or.inr rfl
  · exact Or.inl rfl

/-- A difference from an infinity is infinite. -/
theorem Inf.sub_left {x : EReal} (h : Inf x) (y : EReal) : Inf (x - y) := by
  rw [sub_eq_add_neg]; exact h.add _

/-- A difference with an infinity taken away is infinite. -/
theorem Inf.sub_right {y : EReal} (h : Inf y) (x : EReal) : Inf (x - y) := by
  rw [sub_eq_add_neg, add_comm]; exact h.neg.add _

/-- The square of an infinity is positive infinity. -/
theorem Inf.sq {x : EReal} (h : Inf x) : x * x = ⊤ := by
  rcases h with rfl | rfl <;> rfl

/-- A sum with an infinite term is infinite. -/
theorem Inf.sum {n : ℕ} {f : Fin n → EReal} {k : Fin n} (h : Inf (f k)) : Inf (∑ i, f i) := by
  rw [← Finset.add_sum_erase _ _ (Finset.mem_univ k)]
  exact h.add _

/-- The three literals of the normalisation, as the programs hold them. -/
def n128 : EReal := Ideal.ofBits .f32 1124073472#32
def n127 : EReal := Ideal.ofBits .f32 1123942400#32
def eps : EReal := Ideal.ofBits .f32 897988541#32
/-- The last one is a real number. -/
def e6 : ℝ := 8796093 / 8796093022208

/-- A word whose exponent is not all ones is a real number. -/
theorem ofBits_real (b : BitVec 32) (h : (b.extractLsb' 23 8).toNat ≠ 2 ^ 8 - 1) : IsReal (Ideal.ofBits .f32 b) := by
  unfold Ideal.ofBits Ideal.ieee
  dsimp only
  rw [if_neg h]
  split
  · exact ⟨_, rfl⟩
  · exact ⟨_, rfl⟩

/-- The float is 128. -/
theorem n128_eq : n128 = ((128 : ℝ) : EReal) := by
  unfold n128; simp [Ideal.ofBits, Ideal.ieee]; norm_cast; norm_num
/-- The float is 127. -/
theorem n127_eq : n127 = ((127 : ℝ) : EReal) := by
  unfold n127; simp [Ideal.ofBits, Ideal.ieee]; norm_cast; norm_num
/-- The float nearest to a millionth, as a rational. -/
theorem eps_eq : eps = (e6 : EReal) := by
  unfold eps e6; simp [Ideal.ofBits, Ideal.ieee]; rw [← EReal.coe_mul, EReal.coe_eq_coe_iff]; norm_num

/-- That rational is positive. -/
theorem e6_pos : 0 < e6 := by unfold e6; norm_num

/-- A sum of reals, taken on the extended reals. -/
theorem sum_coe {n : ℕ} (f : Fin n → ℝ) : ∑ i, (f i : EReal) = ((∑ i, f i : ℝ) : EReal) := by
  induction n with
  | zero => simp
  | succ n ih => rw [Fin.sum_univ_succ, Fin.sum_univ_succ, ih, EReal.coe_add]

/-- An infinity divided by 128 is infinite. -/
theorem Inf.div128 {x : EReal} (h : Inf x) : Inf (Ideal.div x n128) := by
  rw [n128_eq, Ideal.div_coe (by norm_num)]
  rcases h with rfl | rfl
  · exact Or.inl (EReal.top_mul_coe_of_pos (by norm_num))
  · exact Or.inr (EReal.bot_mul_coe_of_pos (by norm_num))

/-- A row minus its mean. -/
def centred (x : Fin 128 → EReal) (k : Fin 128) : EReal := x k - Ideal.div (∑ i, x i) n128
/-- The deviation from the sum of squares of `y`. -/
def dev (y : Fin 128 → EReal) : EReal := Ideal.sqrt (Ideal.div (∑ i, y i * y i) n127) + eps
/-- A row normalised, its deviation taken from the centred row. -/
def normal (x : Fin 128 → EReal) (k : Fin 128) : EReal := Ideal.div (centred x k) (dev (centred x))
/-- A row normalised, its deviation taken from the centred row centred again. -/
def normal2 (x : Fin 128 → EReal) (k : Fin 128) : EReal := Ideal.div (centred x k) (dev (centred (centred x)))

/-- A row of infinities has infinite deviation. -/
theorem dev_inf {y : Fin 128 → EReal} (h : ∀ k, Inf (y k)) : dev y = ⊤ := by
  unfold dev
  have : ∑ i, y i * y i = ⊤ := by
    have h1 : ∀ i, y i * y i = ⊤ := fun i => (h i).sq
    simp only [h1]
    rcases (Inf.sum (f := fun _ : Fin 128 => (⊤ : EReal)) (k := 0) (Or.inl rfl)) with h | h
    · exact h
    · exact absurd h (by
        have : (0 : EReal) ≤ ∑ _i : Fin 128, (⊤ : EReal) := Finset.sum_nonneg fun _ _ => le_top
        intro hb; rw [hb] at this; exact absurd this (by simp))
  rw [this, n127_eq, Ideal.div_coe (by norm_num), EReal.top_mul_coe_of_pos (by norm_num), Ideal.sqrt_top, eps_eq]
  exact EReal.top_add_coe _

/-- A row with an infinite entry, centred, is infinite throughout. -/
theorem centred_inf {x : Fin 128 → EReal} {j : Fin 128} (h : Inf (x j)) (k : Fin 128) : Inf (centred x k) :=
  Inf.sub_right (Inf.div128 (Inf.sum h)) _

/-- Divided by infinity, every value is zero. -/
theorem div_top (x : EReal) : Ideal.div x ⊤ = 0 := by
  unfold Ideal.div
  rw [if_neg (by simp), EReal.inv_top, mul_zero]

/-- The sum of the squared deviations of a real row, over 127, rooted, plus the small constant. -/
def devR (y : Fin 128 → ℝ) : ℝ := Real.sqrt ((∑ i, y i * y i) / 127) + e6
def centredR (x : Fin 128 → ℝ) (k : Fin 128) : ℝ := x k - (∑ i, x i) / 128

/-- The deviation of a real row is positive. -/
theorem devR_pos (y : Fin 128 → ℝ) : 0 < devR y := add_pos_of_nonneg_of_pos (Real.sqrt_nonneg _) e6_pos

/-- The deviation of a real row, taken on the extended reals. -/
theorem dev_coe (y : Fin 128 → ℝ) : dev (fun k => (y k : EReal)) = (devR y : EReal) := by
  unfold dev devR
  simp only [← EReal.coe_mul]
  rw [sum_coe, n127_eq, Ideal.div_coe (by norm_num), ← EReal.coe_mul, Ideal.sqrt_coe, if_neg, eps_eq, ← EReal.coe_add]
  · rw [mul_one_div]
  · have : 0 ≤ ∑ i, y i * y i := Finset.sum_nonneg fun i _ => mul_self_nonneg _
    exact not_lt.2 (by positivity)

/-- A real row centred, taken on the extended reals. -/
theorem centred_coe (x : Fin 128 → ℝ) : centred (fun k => (x k : EReal)) = fun k => (centredR x k : EReal) := by
  funext k
  unfold centred centredR
  rw [sum_coe, n128_eq, Ideal.div_coe (by norm_num), ← EReal.coe_mul, ← EReal.coe_sub, mul_one_div]

/-- Centring a second time changes nothing. -/
theorem centredR_twice (x : Fin 128 → ℝ) : centredR (centredR x) = centredR x := by
  have h0 : ∑ i, centredR x i = 0 := by
    unfold centredR
    rw [Finset.sum_sub_distrib, Finset.sum_const, Finset.card_univ, Fintype.card_fin]
    simp; ring
  funext k
  change centredR x k - (∑ i, centredR x i) / 128 = _
  rw [h0]; simp

/-- The normalised row is real, at most 12 in size, and the same either way. -/
theorem normal_spec (x : Fin 128 → EReal) :
    ∃ y : Fin 128 → ℝ, (∀ k, normal x k = (y k : EReal)) ∧ (∀ k, normal2 x k = (y k : EReal)) ∧ ∀ k, |y k| ≤ 12 := by
  by_cases h : ∃ j, Inf (x j)
  · obtain ⟨j, hj⟩ := h
    refine ⟨fun _ => 0, fun k => ?_, fun k => ?_, fun k => by simp⟩
    · unfold normal
      rw [dev_inf (centred_inf hj), div_top]; rfl
    · unfold normal2
      rw [dev_inf (centred_inf (centred_inf hj 0)), div_top]; rfl
  · have hr : ∀ j, ∃ a : ℝ, x j = a := fun j => (inf_or_real (x j)).resolve_left fun h' => h ⟨j, h'⟩
    choose z hz using hr
    obtain rfl : x = fun k => (z k : EReal) := funext hz
    have hd := devR_pos (centredR z)
    refine ⟨fun k => centredR z k / devR (centredR z), fun k => ?_, fun k => ?_, fun k => ?_⟩
    · unfold normal
      rw [centred_coe, dev_coe, Ideal.div_coe hd.ne', ← EReal.coe_mul, mul_one_div]
    · unfold normal2
      rw [centred_coe, centred_coe, centredR_twice, dev_coe, Ideal.div_coe hd.ne', ← EReal.coe_mul, mul_one_div]
    · rw [abs_div, abs_of_pos hd, div_le_iff₀ hd]
      have h1 : centredR z k * centredR z k ≤ ∑ i, centredR z i * centredR z i :=
        Finset.single_le_sum (f := fun i => centredR z i * centredR z i) (fun i _ => mul_self_nonneg _) (Finset.mem_univ k)
      have h2 : |centredR z k| ≤ 12 * Real.sqrt ((∑ i, centredR z i * centredR z i) / 127) := by
        apply abs_le_of_sq_le_sq _ (by positivity)
        have h3 : 0 ≤ ∑ i, centredR z i * centredR z i := Finset.sum_nonneg fun i _ => mul_self_nonneg _
        rw [mul_pow, Real.sq_sqrt (by positivity)]
        nlinarith
      unfold devR
      have := e6_pos
      linarith

/-- The correlation of two normalised rows: real, less than 200 in size. -/
theorem corr_spec (y z : Fin 128 → ℝ) (hy : ∀ k, |y k| ≤ 12) (hz : ∀ k, |z k| ≤ 12) :
    |(∑ k, y k * z k) / 127| < 200 := by
  have h1 : |∑ k, y k * z k| ≤ 128 * 144 := by
    refine (Finset.abs_sum_le_sum_abs _ _).trans ?_
    refine (Finset.sum_le_card_nsmul _ _ 144 fun k _ => ?_).trans (by simp)
    rw [abs_mul]
    exact (mul_le_mul (hy k) (hz k) (abs_nonneg _) (by norm_num)).trans (by norm_num)
  rw [abs_div, abs_of_pos (by norm_num : (0 : ℝ) < 127), div_lt_iff₀ (by norm_num)]
  linarith

/-! ## Real numbers among the extended reals -/

/-- A sum of real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A difference of real numbers is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- A product of real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A finite sum of real numbers is real. -/
theorem IsReal.sum {n : ℕ} {f : Fin n → EReal} (h : ∀ i, IsReal (f i)) : IsReal (∑ i, f i) := by
  choose g hg using h
  simp only [hg, sum_coe]; exact ⟨_, rfl⟩
/-- The greater of two real numbers is real. -/
theorem IsReal.max {x y : EReal} (hx : IsReal x) (hy : IsReal y) : IsReal (max x y) := by
  rcases max_choice x y with h | h <;> rw [h] <;> assumption
/-- The lesser of two real numbers is real. -/
theorem IsReal.min {x y : EReal} (hx : IsReal x) (hy : IsReal y) : IsReal (min x y) := by
  rcases min_choice x y with h | h <;> rw [h] <;> assumption
/-- Zero is real. -/
theorem isReal_zero : IsReal 0 := ⟨0, rfl⟩
/-- One is real. -/
theorem isReal_one : IsReal 1 := ⟨1, rfl⟩

end Cert.Normal

end
-- ==== Proof.Pre.lean ====
/- What the precondition says: every token and every entry of the weights is a real number. -/
module

public import proofs.«01_k».proof.Proof.Normal
public import proofs.«01_k».proof.Proof.Gen.Pre_tokens_and_theta_finite
public import Idealize.ShloMosaic.Lib.Pointwise
public import Idealize.ShloMosaic.Lib.ReduceAll
public import Idealize.ShloMosaic.Lib.WordArith

@[expose] public section

set_option maxRecDepth 65536

noncomputable section

namespace Cert.Pre

open Idealize.ShloMosaic Idealize.ShloMosaic.StableHlo Idealize.ShloMosaic.TcCoe
open Cert.Normal Cert.Pre_tokens_and_theta_finite Cert.Pre_tokens_and_theta_finite.Gen

/-- A value whose magnitude compares below infinity is real. -/
theorem real_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  rcases inf_or_real x with (rfl | rfl) | hx
  · simp [Ideal.cmp] at h
  · simp [Ideal.cmp] at h
  · exact hx

variable {Y : FVec Ideal S4x2048x32 .f32} {X : FVec Ideal S4x2048x128 .f32} {H : FVec Ideal S32x32 .f32} {a : FVec Ideal S_ .f32}

/-- A conjunction of bits is one when both are. -/
theorem both {p q : BitVec 1} (h : IntOp.andi p q = 1#1) : p = 1#1 ∧ q = 1#1 := by
  revert p q; decide

/-- The precondition, decoded. -/
theorem decode (h : fn Y X H a = fun _ => 1#1) : (∀ j, IsReal (Y j)) ∧ ∀ j, IsReal (H j) := by
  have h0 := congrFun h ix0
  obtain ⟨hy, hh⟩ := both h0
  exact ⟨fun j => real_of_lt _ (Host.reduce_andi_all _ _ _ _ _ hy j), fun j => real_of_lt _ (Host.reduce_andi_all _ _ _ _ _ hh j)⟩

end Cert.Pre

end
-- ==== Proof.Rows.lean ====
/- The kernel's selection, said with a few operations on columns: the next distinct maximum of each row, the value at a
   place of a table, the count of a row, one halving step. The program's cut pieces are shown to be these. -/
module

public import proofs.«01_k».proof.Proof.IdealBody
public import Idealize.ShloMosaic.Lib.Pointwise

@[expose] public section

set_option maxRecDepth 65536

noncomputable section

namespace Cert.KernelIdeal.Rows

open Cert.KernelIdeal Cert.KernelIdeal.Gen Cert.KernelIdeal.Body
open Idealize.ShloMosaic

/-- Columns of 2048 numbers or flags, the matrices of a batch, and the tables of 17 columns. -/
abbrev Col := FVec Ideal S2048x1 .f32
abbrev ICol := IVec S2048x1 32
abbrev BCol := IVec S2048x1 1
abbrev Mat := FVec Ideal S2048x2048 .f32
abbrev IMat := IVec S2048x2048 32
abbrev Tab := FVec Ideal S2048x17 .f32

/-- Each row's maximum below `q`, the lowest constant standing for the entries not below it. -/
def nextMaxOf (v b : Mat) : Col :=
  shapeCast S2048x1 (multiReduction .maximumf [1] S2048
    (select (cmpf .olt v b) v (broadcast S2048x2048 (Scalar.ofBits .f32 0xFF61B1E6#32)))
    0xFF800000#32 reduces_S2048x2048_S2048 (.inl rfl) rfl) shapeCasts_S2048_S2048x1
def nextMax (v : Mat) (q : Col) : Col := nextMaxOf v (broadcastTo S2048x2048 q broadcasts_S2048x1_S2048x2048)

/-- The rows' distinct values in descending order. -/
def chain (v : Mat) : ℕ → Col
  | 0 => nextMax v (broadcast S2048x1 (Scalar.ofBits .f32 0x7F61B1E6#32))
  | t + 1 => nextMax v (chain v t)

/-- The value at place `t` of each row of a table. -/
def placeSum (w : Tab) (t : ICol) : FVec Ideal S2048 .f32 :=
  multiReduction .add [1] S2048
    (select (cmpi .eq places (broadcastTo S2048x17 t broadcasts_S2048x1_S2048x17)) w
      (broadcast S2048x17 (Scalar.ofBits .f32 0x00000000#32)))
    0x00000000#32 reduces_S2048x17_S2048 (.inl rfl) rfl
def place (w : Tab) (t : ICol) : Col := shapeCast S2048x1 (placeSum w t) shapeCasts_S2048_S2048x1

/-- How many flags of each row are set. -/
def rowCount (b : IVec S2048x2048 1) : ICol :=
  shapeCast S2048x1 (multiReductionI .add [1] S2048 (extui 32 b natLt_1_32) 0#32 reduces_S2048x2048_S2048 rfl)
    shapeCasts_S2048_S2048x1

/-- How many entries of each row are at or above `q`. -/
def atLeast (v : Mat) (q : Col) : ICol :=
  rowCount (cmpf .oge v (broadcastTo S2048x2048 q broadcasts_S2048x1_S2048x2048))

/-- Whether at least 17 entries are at or above the value at place `t`. -/
def enough (v : Mat) (w : Tab) (t : ICol) : BCol :=
  cmpi .sge (atLeast v (place w t)) (broadcast S2048x1 17#32)

/-- Whether at least `s` of the entries equal to `t` lie in columns up to `k`. -/
def enoughTies (v : Mat) (t : Col) (s : ICol) (k : ICol) : BCol :=
  cmpi .sge (rowCount (andi (cmpf .oeq v (broadcastTo S2048x2048 t broadcasts_S2048x1_S2048x2048))
    (cmpi .sle cols (broadcastTo S2048x2048 k broadcasts_S2048x1_S2048x2048)))) s

/-- The middle of an interval in each row, and one halving. -/
def middle (s : ICol × ICol) : ICol := shrsi (addi s.1 s.2) (broadcast S2048x1 1#32)
def step (e : ICol → BCol) (s : ICol × ICol) : ICol × ICol :=
  (select (e (middle s)) s.1 (addi (middle s) (broadcast S2048x1 1#32)), select (e (middle s)) (middle s) s.2)

variable (v : Mat) (w : Tab)

attribute [local irreducible] select addi subi shrsi andi ori maxsi cmpi cmpf broadcast broadcastTo shapeCast multiReduction
  multiReductionI extui concatenate

/-- The count search's start. -/
def start17 : ICol × ICol := (broadcast S2048x1 0#32, broadcast S2048x1 16#32)

/-- The lower end of the count search after two steps. -/
theorem lo2_eq : lo2 v w = (step (enough v w) (step (enough v w) start17)).1 := rfl
/-- The upper end after two steps. -/
theorem hi2_eq : hi2 v w = (step (enough v w) (step (enough v w) start17)).2 := rfl
/-- The middle after two steps. -/
theorem mid2_eq : mid2 v w = middle (lo2 v w, hi2 v w) := rfl
/-- The value at that middle. -/
theorem at2_eq : at2 v w = placeSum w (mid2 v w) := rfl
/-- The lower end two steps on. -/
theorem lo4_of (L H : ICol) : k0_pay77 v w places H L (middle (L, H)) (placeSum w (middle (L, H)))
    = (step (enough v w) (step (enough v w) (L, H))).1 := rfl
/-- The middle two steps on. -/
theorem mid4_of (L H : ICol) : k0_pay78 v w places H L (middle (L, H)) (placeSum w (middle (L, H)))
    = middle (step (enough v w) (step (enough v w) (L, H))) := rfl
/-- How many entries are no less than the value at that middle. -/
theorem cnt4_of (L H : ICol) : k0_pay79 v w places H L (middle (L, H)) (placeSum w (middle (L, H)))
    = atLeast v (place w (middle (step (enough v w) (step (enough v w) (L, H))))) := rfl

/-- Where the count search ends. -/
def found : ICol := (step (enough v w) (step (enough v w) (step (enough v w) (step (enough v w) (step (enough v w) start17))))).1

/-- The place after the fifth step. -/
theorem lo5_eq : k0_pay80 (lo4 v w) (mid4 v w) (cnt4 v w) 17#32 = found v w := by
  unfold lo4 mid4 cnt4
  rw [at2_eq, mid2_eq, lo4_of, mid4_of, cnt4_of, lo2_eq, hi2_eq]
  rfl

/-- The threshold is the value at the place found. -/
theorem thr_eq : thr v w = place w (found v w) := by
  rw [← lo5_eq]; rfl

/-- How many entries lie above the threshold. -/
def above : ICol :=
  select (cmpi .sgt (found v w) (broadcast S2048x1 0#32))
    (atLeast v (place w (maxsi (subi (found v w) (broadcast S2048x1 1#32)) (broadcast S2048x1 0#32)))) (broadcast S2048x1 0#32)

/-- How many entries are above the threshold. -/
theorem above_eq : k0_pay82 v w places (lo4 v w) (mid4 v w) (cnt4 v w) 17#32 = above v w := by
  unfold above; rw [← lo5_eq]; rfl

/-- How many of those equal to the threshold are kept. -/
theorem room_eq : room v w = subi (broadcast S2048x1 17#32) (above v w) := by
  rw [← above_eq]; rfl

/-- Whether more are equal to it. -/
theorem over_eq : over v w = cmpi .sgt (subi (atLeast v (thr v w)) (above v w)) (room v w) := by
  rw [← above_eq]; rfl

/-- The tie search's interval after `n` steps. -/
def ties (t : Col) (s : ICol) (n : ℕ) : ICol × ICol :=
  (step (enoughTies v t s))^[n] (broadcast S2048x1 0#32, broadcast S2048x1 2047#32)

variable (t : Col) (s : ICol)

/-- The lower end of the tie search after two steps. -/
theorem tie1a_eq : tie1a v cols t s = (ties v t s 2).1 := rfl
/-- The test at the middle of that interval. -/
theorem tie1b_eq : tie1b v cols t s = enoughTies v t s (middle (ties v t s 2)) := rfl
/-- The upper end after the third step. -/
theorem tie1c_eq : tie1c v cols t s = (ties v t s 3).2 := rfl
/-- The column after the middle of the second interval. -/
theorem tie1d_eq : tie1d v cols t s = addi (middle (ties v t s 2)) (broadcast S2048x1 1#32) := rfl
/-- The upper end four steps on. -/
theorem tie2a_of (L H : ICol) :
    k0_pay27 v cols t s L (enoughTies v t s (middle (L, H))) (step (enoughTies v t s) (L, H)).2 (addi (middle (L, H)) (broadcast S2048x1 1#32))
      = ((step (enoughTies v t s))^[4] (L, H)).2 := rfl
/-- The lower end four steps on. -/
theorem tie2b_of (L H : ICol) :
    k0_pay28 v cols t s L (enoughTies v t s (middle (L, H))) (step (enoughTies v t s) (L, H)).2 (addi (middle (L, H)) (broadcast S2048x1 1#32))
      = ((step (enoughTies v t s))^[4] (L, H)).1 := rfl
/-- The sum of the ends four steps on. -/
theorem tie2c_of (L H : ICol) :
    k0_pay29 v cols t s L (enoughTies v t s (middle (L, H))) (step (enoughTies v t s) (L, H)).2 (addi (middle (L, H)) (broadcast S2048x1 1#32))
      = addi ((step (enoughTies v t s))^[4] (L, H)).1 ((step (enoughTies v t s))^[4] (L, H)).2 := rfl
/-- The upper end three steps on. -/
theorem tie3a_of (L H : ICol) :
    k0_pay40 v cols t s H L (addi L H) 1#32 = ((step (enoughTies v t s))^[3] (L, H)).2 := rfl
/-- The lower end three steps on. -/
theorem tie3b_of (L H : ICol) :
    k0_pay41 v cols t s H L (addi L H) 1#32 = ((step (enoughTies v t s))^[3] (L, H)).1 := rfl
/-- The middle three steps on. -/
theorem tie3c_of (L H : ICol) :
    k0_pay42 v cols t s H L (addi L H) 1#32 = middle ((step (enoughTies v t s))^[3] (L, H)) := rfl
/-- What the search returns is the upper end two steps on. -/
theorem tieEnd_of (L H : ICol) :
    k0_pay87 v cols t s H L (middle (L, H)) (k0_pay43 t) = ((step (enoughTies v t s))^[2] (L, H)).2 := rfl

/-- The tie search ends at the upper end of the interval after eleven steps. -/
theorem tieEnd_eq : tieEnd v cols t s = (ties v t s 11).2 := by
  have h4 : ties v t s 6 = (step (enoughTies v t s))^[4] (ties v t s 2) := by
    unfold ties; rw [← Function.iterate_add_apply]
  have h3 : ties v t s 9 = (step (enoughTies v t s))^[3] (ties v t s 6) := by
    unfold ties; rw [← Function.iterate_add_apply]
  have h2 : ties v t s 11 = (step (enoughTies v t s))^[2] (ties v t s 9) := by
    unfold ties; rw [← Function.iterate_add_apply]
  have a2 : tie2a v cols t s = (ties v t s 6).2 := by rw [h4]; exact tie2a_of v t s (ties v t s 2).1 (ties v t s 2).2
  have b2 : tie2b v cols t s = (ties v t s 6).1 := by rw [h4]; exact tie2b_of v t s (ties v t s 2).1 (ties v t s 2).2
  have c2 : tie2c v cols t s = addi (ties v t s 6).1 (ties v t s 6).2 := by
    rw [h4]; exact tie2c_of v t s (ties v t s 2).1 (ties v t s 2).2
  unfold tieEnd tie3a tie3b tie3c
  rw [a2, b2, c2, tie3a_of, tie3b_of, tie3c_of, h2, h3]
  exact tieEnd_of v t s _ _

/-- The table of a row's 17 largest distinct values. -/
def tab : Tab := concatenate S2048x17 1 [⟨S2048x1, chain v 0⟩, ⟨S2048x1, chain v 1⟩, ⟨S2048x1, chain v 2⟩, ⟨S2048x1, chain v 3⟩, ⟨S2048x1, chain v 4⟩, ⟨S2048x1, chain v 5⟩, ⟨S2048x1, chain v 6⟩, ⟨S2048x1, chain v 7⟩, ⟨S2048x1, chain v 8⟩, ⟨S2048x1, chain v 9⟩, ⟨S2048x1, chain v 10⟩, ⟨S2048x1, chain v 11⟩, ⟨S2048x1, chain v 12⟩, ⟨S2048x1, chain v 13⟩, ⟨S2048x1, chain v 14⟩, ⟨S2048x1, chain v 15⟩, ⟨S2048x1, chain v 16⟩] concatenates_S2048x1_S2048x1_S2048x1_S2048x1_S2048x1_S2048x1_S2048x1_S2048x1_S2048x1_S2048x1_S2048x1_S2048x1_S2048x1_S2048x1_S2048x1_S2048x1_S2048x1_S2048x17_d1

attribute [local irreducible] k0_pay44 in
/-- The table is that of the correlations. -/
theorem table_eq (x : Vec Ideal S1x2048x128 .f32) : table x = tab (corr x) := rfl

end Cert.KernelIdeal.Rows

end
-- ==== Proof.TopSel.lean ====
/- The `K` largest entries of a row, first come first served among equals, said three ways: by rank, by a threshold with
   a cut among the entries equal to it, and as the first positions of a stable descending sort. Plain mathematics: no
   program is mentioned here. -/
module

public import Idealize.ShloMosaic.Lib.SortFacts
public import Mathlib.Data.EReal.Basic
public import Mathlib.Order.Interval.Finset.Fin

@[expose] public section

noncomputable section

namespace Cert.TopSel

open Classical

variable {n : ℕ}

/-- How many indices satisfy `p`. -/
def count (p : Fin n → Prop) : ℕ := (Finset.univ.filter p).card

/-- The count is the size of the set, however membership is decided. -/
theorem count_eq_card (p : Fin n → Prop) [DecidablePred p] : count p = (Finset.univ.filter p).card := by
  unfold count; congr

/-- Nothing to count. -/
theorem count_zero {p : Fin n → Prop} (h : ∀ k, ¬ p k) : count p = 0 := by
  unfold count; rw [Finset.card_eq_zero, Finset.filter_eq_empty_iff]; exact fun k _ => h k

/-- A larger set counts no less. -/
theorem count_mono {p q : Fin n → Prop} (h : ∀ k, p k → q k) : count p ≤ count q :=
  Finset.card_le_card fun k hk => by
    simp only [Finset.mem_filter, Finset.mem_univ, true_and] at hk ⊢; exact h k hk

/-- Equal sets count alike. -/
theorem count_congr {p q : Fin n → Prop} (h : ∀ k, p k ↔ q k) : count p = count q :=
  le_antisymm (count_mono fun k => (h k).1) (count_mono fun k => (h k).2)

/-- A larger set with a further member counts more. -/
theorem count_lt {p q : Fin n → Prop} (h : ∀ k, p k → q k) (j : Fin n) (hq : q j) (hp : ¬ p j) : count p < count q :=
  Finset.card_lt_card ⟨fun k hk => by
    simp only [Finset.mem_filter, Finset.mem_univ, true_and] at hk ⊢; exact h k hk,
    fun hs => hp (by simpa using hs (show j ∈ Finset.univ.filter q by simpa using hq))⟩

/-- The count of a disjoint union. -/
theorem count_or {p q : Fin n → Prop} (h : ∀ k, p k → ¬ q k) : count (fun k => p k ∨ q k) = count p + count q := by
  have hd : Disjoint (Finset.univ.filter p) (Finset.univ.filter q) :=
    Finset.disjoint_filter.2 fun k _ hp => h k hp
  unfold count
  rw [← Finset.card_union_of_disjoint hd, ← Finset.filter_or]
  congr

/-- No more than all are counted. -/
theorem count_le (p : Fin n → Prop) : count p ≤ n := by
  unfold count
  exact (Finset.card_le_univ _).trans (by simp)

/-- All are counted. -/
theorem count_all {p : Fin n → Prop} (h : ∀ k, p k) : count p = n := by
  unfold count
  rw [Finset.filter_true_of_mem fun k _ => h k]; simp

/-- How many entries of the row come before `j` in descending order, the earlier of two equal ones first. -/
def rank (c : Fin n → EReal) (j : Fin n) : ℕ := count fun k => c j < c k ∨ (c k = c j ∧ k < j)

/-! ## A threshold and a cut -/

/-- The entries above a threshold `T`, and of those equal to it the ones up to column `cut`, are the `K` first of the
    row — when fewer than `K` are above it, at least `K` are at or above it, and `cut` is either the first column up to
    which enough are equal to it or, exactly `K` being at or above it, a bound of all columns. -/
theorem kept_iff {K : ℕ} (c : Fin n → EReal) (T : EReal) (cut : ℕ)
    (hG : count (fun k => T < c k) < K) (hge : K ≤ count fun k => T ≤ c k)
    (hcut : (K - count (fun k => T < c k) ≤ count (fun k => c k = T ∧ k.val ≤ cut)
              ∧ ∀ x < cut, count (fun k => c k = T ∧ k.val ≤ x) < K - count (fun k => T < c k))
            ∨ (count (fun k => T ≤ c k) = K ∧ ∀ k : Fin n, k.val ≤ cut)) (j : Fin n) :
    (T < c j ∨ (c j = T ∧ j.val ≤ cut)) ↔ rank c j < K := by
  have hsplit : count (fun k => T ≤ c k) = count (fun k => T < c k) + count fun k => c k = T := by
    rw [← count_or fun k h e => h.ne' e]
    exact count_congr fun k => ⟨fun h => h.lt_or_eq.imp id Eq.symm, fun h => h.elim le_of_lt fun e => e.ge⟩
  rcases lt_trichotomy (c j) T with hlt | heq | hgt
  · refine iff_of_false (by rintro (h | ⟨h, -⟩); exacts [absurd h hlt.not_gt, absurd h hlt.ne]) (not_lt.2 (hge.trans ?_))
    exact count_mono fun k hk => Or.inl (hlt.trans_le hk)
  · have hr : rank c j = count (fun k => T < c k) + count fun k => c k = T ∧ k.val < j.val := by
      unfold rank
      rw [heq, count_or fun k h e => h.ne' e.1]
      rfl
    have hlhs : (T < c j ∨ (c j = T ∧ j.val ≤ cut)) ↔ j.val ≤ cut :=
      ⟨fun h => h.elim (fun h => absurd heq h.ne') fun h => h.2, fun h => Or.inr ⟨heq, h⟩⟩
    rw [hlhs, hr]
    rcases hcut with ⟨h1, h2⟩ | ⟨h1, h2⟩
    · constructor
      · intro hj
        rcases Nat.eq_zero_or_pos j.val with h0 | h0
        · have : count (fun k : Fin n => c k = T ∧ k.val < j.val) = 0 :=
            count_zero fun k hk => by omega
          omega
        · have := h2 (j.val - 1) (by omega)
          have h3 : count (fun k : Fin n => c k = T ∧ k.val < j.val) ≤ count (fun k : Fin n => c k = T ∧ k.val ≤ j.val - 1) :=
            count_mono fun k hk => ⟨hk.1, by omega⟩
          omega
      · intro hj
        by_contra hlt
        have h3 : count (fun k : Fin n => c k = T ∧ k.val ≤ cut) ≤ count (fun k : Fin n => c k = T ∧ k.val < j.val) :=
          count_mono fun k hk => ⟨hk.1, by omega⟩
        omega
    · refine iff_of_true (h2 j) ?_
      have h3 : count (fun k : Fin n => c k = T ∧ k.val < j.val) < count (fun k => c k = T) :=
        count_lt (fun k hk => hk.1) j heq (by simp)
      omega
  · refine iff_of_true (Or.inl hgt) (lt_of_lt_of_le ?_ hG.le)
    exact count_lt (fun k hk => hk.elim hgt.trans fun e => e.1 ▸ hgt) j hgt (by simp)

/-! ## Descending distinct maxima -/

/-- The largest entry below `q`, and `lo` where there is none. -/
def nm (c : Fin n → EReal) (lo q : EReal) : EReal :=
  Finset.univ.fold max ⊥ fun k => if c k < q then c k else lo

/-- An entry below the bound is at most the largest entry below it. -/
theorem le_nm (c : Fin n → EReal) (lo q : EReal) (k : Fin n) (h : c k < q) : c k ≤ nm c lo q := by
  unfold nm
  exact (Finset.le_fold_max _).2 (Or.inr ⟨k, Finset.mem_univ _, by rw [if_pos h]⟩)

/-- That largest entry is an entry below the bound, or the stand-in where there is none. -/
theorem nm_cases (c : Fin n → EReal) (lo q : EReal) (hn : 0 < n) (hlo : ∀ k, lo < c k) :
    (∃ k, c k < q ∧ nm c lo q = c k) ∨ ((∀ k, ¬ c k < q) ∧ nm c lo q = lo) := by
  by_cases h : ∃ k, c k < q
  · left
    obtain ⟨k, hk⟩ := h
    by_contra hne
    have : nm c lo q < nm c lo q := by
      conv_lhs => unfold nm
      refine (Finset.fold_max_lt _).2 ⟨bot_lt_iff_ne_bot.2 fun hb => ?_, fun k' _ => ?_⟩
      · exact absurd (le_nm c lo q k hk) (by rw [hb]; exact not_le.2 (lt_of_le_of_lt bot_le (hlo k)))
      · split
        · next h' => exact lt_of_le_of_ne (le_nm c lo q k' h') fun e => hne ⟨k', h', e.symm⟩
        · exact (hlo k).trans_le (le_nm c lo q k hk)
    exact lt_irrefl _ this
  · right
    have h' : ∀ k, ¬ c k < q := fun k hk => h ⟨k, hk⟩
    refine ⟨h', le_antisymm ?_ ?_⟩
    · exact (Finset.fold_max_le _).2 ⟨bot_le, fun k _ => by rw [if_neg (h' k)]⟩
    · exact (Finset.le_fold_max _).2 (Or.inr ⟨⟨0, hn⟩, Finset.mem_univ _, by rw [if_neg (h' _)]⟩)

/-- The row's distinct values in descending order, from the largest one below `hi`; `lo` when they are exhausted. -/
def mx (c : Fin n → EReal) (lo hi : EReal) : ℕ → EReal
  | 0 => nm c lo hi
  | t + 1 => nm c lo (mx c lo hi t)

section
variable (c : Fin n → EReal) (lo hi : EReal) (hn : 0 < n) (hlo : ∀ k, lo < c k) (hhi : ∀ k, c k < hi)
include hn hlo

/-- An entry is above the next value in turn exactly when it is no lower than this one. -/
theorem mx_succ_lt_iff (t : ℕ) (k : Fin n) : mx c lo hi (t + 1) < c k ↔ mx c lo hi t ≤ c k := by
  constructor
  · intro h
    by_contra hk
    exact absurd (le_nm c lo (mx c lo hi t) k (not_le.1 hk)) (not_le.2 h)
  · intro h
    show nm c lo _ < c k
    rcases nm_cases c lo (mx c lo hi t) hn hlo with ⟨k', h', e⟩ | ⟨-, e⟩
    · rw [e]; exact h'.trans_le h
    · rw [e]; exact hlo k

include hhi

/-- No entry is above the first value. -/
theorem not_mx_zero_lt (k : Fin n) : ¬ mx c lo hi 0 < c k := not_lt.2 (le_nm c lo hi k (hhi k))

/-- How many entries are at or above the `t`-th of them. -/
theorem count_mx_mono {s t : ℕ} (h : s ≤ t) :
    count (fun k => mx c lo hi s ≤ c k) ≤ count fun k => mx c lo hi t ≤ c k := by
  induction h with
  | refl => exact le_rfl
  | step _ ih => exact ih.trans (count_mono fun k hk => ((mx_succ_lt_iff c lo hi hn hlo _ k).2 hk).le)

/-- More than `t` entries are at or above the `t`-th value, or all are. -/
theorem count_mx (t : ℕ) : min (t + 1) n ≤ count fun k => mx c lo hi t ≤ c k := by
  induction t with
  | zero =>
    have : 0 < count fun k => mx c lo hi 0 ≤ c k := by
      rcases nm_cases c lo hi hn hlo with ⟨k, -, e⟩ | ⟨h, -⟩
      · refine Finset.card_pos.2 ⟨k, ?_⟩
        simp only [Finset.mem_filter, Finset.mem_univ, true_and]; exact e.le
      · exact absurd (hhi ⟨0, hn⟩) (h _)
    omega
  | succ t ih =>
    have hsub : ∀ k, mx c lo hi t ≤ c k → mx c lo hi (t + 1) ≤ c k := fun k hk =>
      ((mx_succ_lt_iff c lo hi hn hlo t k).2 hk).le
    rcases nm_cases c lo (mx c lo hi t) hn hlo with ⟨k, hk, e⟩ | ⟨h, -⟩
    · have := count_lt hsub k (show nm c lo _ ≤ c k from e.le) (not_le.2 hk)
      omega
    · have := count_all (p := fun k => mx c lo hi (t + 1) ≤ c k) fun k => hsub k (not_lt.1 (h k))
      omega

/-- The entries strictly above the `t`-th value are those at or above the one before it. -/
theorem count_above (t : ℕ) :
    count (fun k => mx c lo hi t < c k) = if t = 0 then 0 else count fun k => mx c lo hi (t - 1) ≤ c k := by
  rcases t with - | t
  · rw [if_pos rfl]
    exact count_zero fun k => not_mx_zero_lt c lo hi hn hlo hhi k
  · rw [if_neg (Nat.succ_ne_zero t)]
    exact count_congr fun k => mx_succ_lt_iff c lo hi hn hlo t k

end

/-! ## Halving -/

/-- One halving of the interval `a ≤ b` for the first number satisfying `P`. -/
def halve (P : ℕ → Prop) (s : ℕ × ℕ) : ℕ × ℕ :=
  if P ((s.1 + s.2) / 2) then (s.1, (s.1 + s.2) / 2) else ((s.1 + s.2) / 2 + 1, s.2)

/-- What halving keeps: the interval holds the first number satisfying `P`, under a bound. -/
def Holds (P : ℕ → Prop) (B w : ℕ) (s : ℕ × ℕ) : Prop :=
  s.1 ≤ s.2 ∧ s.2 ≤ B ∧ s.2 - s.1 ≤ w ∧ P s.2 ∧ ∀ x < s.1, ¬ P x

/-- Halving keeps what a search holds. -/
theorem Holds.halve {P : ℕ → Prop} (hP : ∀ x y, x ≤ y → P x → P y) {B w : ℕ} {s : ℕ × ℕ} (h : Holds P B w s) :
    Holds P B (w / 2) (halve P s) := by
  obtain ⟨h1, h2, h3, h4, h5⟩ := h
  unfold TopSel.halve
  split
  · next hm => exact ⟨by dsimp; omega, by dsimp; omega, by dsimp; omega, hm, h5⟩
  · next hm =>
    have hne : (s.1 + s.2) / 2 < s.2 := by
      by_contra hge
      exact hm (hP _ _ (not_lt.1 hge) h4)
    exact ⟨by dsimp; omega, h2, by dsimp; omega, h4, fun x hx hx' => hm (hP _ _ (by dsimp at hx; omega) hx')⟩

/-- The two ends of a closed interval are the first number. -/
theorem Holds.first {P : ℕ → Prop} {B : ℕ} {s : ℕ × ℕ} (h : Holds P B 0 s) :
    s.1 = s.2 ∧ s.1 ≤ B ∧ P s.1 ∧ ∀ x < s.1, ¬ P x := by
  obtain ⟨h1, h2, h3, h4, h5⟩ := h
  have e : s.1 = s.2 := by omega
  exact ⟨e, e ▸ h2, e ▸ h4, h5⟩

/-! ## The stable sort -/

open Idealize.ShloMosaic

/-- Descending, the earlier of equal entries first. -/
def Lex (c : Fin n → EReal) (x y : Fin n) : Prop := c y < c x ∨ (c x = c y ∧ x < y)

/-- Inserting an earlier element into a list in order keeps it in order. -/
theorem pairwise_insert (c : Fin n → EReal) (R : Fin n → Fin n → Bool) (hR : ∀ x y, R x y = true ↔ c y < c x)
    (a : Fin n) (l : List (Fin n)) (hl : l.Pairwise (Lex c)) (ha : ∀ b ∈ l, a < b) :
    (insertBefore R a l).Pairwise (Lex c) := by
  induction l with
  | nil => exact List.pairwise_singleton _ _
  | cons b l ih =>
    obtain ⟨hb, hl'⟩ := List.pairwise_cons.1 hl
    unfold insertBefore
    split
    · next h =>
      refine List.pairwise_cons.2 ⟨fun x hx => ?_, ih hl' fun x hx => ha x (List.mem_cons_of_mem _ hx)⟩
      rcases List.mem_cons.1 ((perm_insertBefore R a l).mem_iff.1 hx) with rfl | hx
      · exact Or.inl ((hR _ _).1 h)
      · exact hb x hx
    · next h =>
      have hab : c b ≤ c a := not_lt.1 fun hlt => h ((hR _ _).2 hlt)
      have hle : ∀ x ∈ b :: l, c x ≤ c b := by
        intro x hx
        rcases List.mem_cons.1 hx with rfl | hx
        · exact le_rfl
        · exact (hb x hx).elim le_of_lt fun e => e.1.ge
      refine List.pairwise_cons.2 ⟨fun x hx => ?_, hl⟩
      rcases ((hle x hx).trans hab).lt_or_eq with h' | h'
      · exact Or.inl h'
      · exact Or.inr ⟨h'.symm, ha x hx⟩

/-- The sort is stable and descending. -/
theorem pairwise_sort (c : Fin n → EReal) (R : Fin n → Fin n → Bool) (hR : ∀ x y, R x y = true ↔ c y < c x)
    (l : List (Fin n)) (hl : l.Pairwise (· < ·)) : (stableSort R l).Pairwise (Lex c) := by
  induction l with
  | nil => exact List.Pairwise.nil
  | cons a l ih =>
    obtain ⟨ha, hl'⟩ := List.pairwise_cons.1 hl
    unfold stableSort
    exact pairwise_insert c R hR a _ (ih hl') fun b hb => ha b ((perm_stableSort R l).mem_iff.1 hb)

/-- The sorted positions are in order of value, then of place. -/
theorem sorted_lex (c : Fin n → EReal) (R : Fin n → Fin n → Bool) (hR : ∀ x y, R x y = true ↔ c y < c x)
    (i j : Fin n) (h : i < j) : Lex c (sortedFrom R i) (sortedFrom R j) := by
  have hp := List.pairwise_iff_get.mp (pairwise_sort c R hR (List.finRange n) (List.pairwise_lt_finRange n))
  unfold sortedFrom
  exact hp _ _ h

/-- The element a stable descending sort puts at position `p` has rank `p`. -/
theorem rank_sortedFrom (c : Fin n → EReal) (R : Fin n → Fin n → Bool) (hR : ∀ x y, R x y = true ↔ c y < c x)
    (p : Fin n) : rank c (sortedFrom R p) = p.val := by
  have hset : (Finset.univ.filter fun k => c (sortedFrom R p) < c k ∨ (c k = c (sortedFrom R p) ∧ k < sortedFrom R p))
      = (Finset.Iio p).map ⟨sortedFrom R, sortedFrom_injective R⟩ := by
    ext k
    simp only [Finset.mem_filter, Finset.mem_univ, true_and, Finset.mem_map, Finset.mem_Iio, Function.Embedding.coeFn_mk]
    constructor
    · intro hk
      obtain ⟨q, rfl⟩ := sortedFrom_surjective R k
      refine ⟨q, ?_, rfl⟩
      by_contra hq
      rcases (not_lt.1 hq).lt_or_eq with h | rfl
      · rcases sorted_lex c R hR _ _ h with h' | h'
        · rcases hk with hk | hk
          · exact absurd hk h'.not_gt
          · exact absurd hk.1 h'.ne
        · rcases hk with hk | hk
          · exact absurd h'.1 hk.ne
          · exact absurd hk.2 h'.2.not_gt
      · rcases hk with hk | hk
        · exact lt_irrefl _ hk
        · exact lt_irrefl _ hk.2
    · rintro ⟨q, hq, rfl⟩
      exact sorted_lex c R hR _ _ hq
  unfold rank
  rw [count_eq_card, hset, Finset.card_map, Fin.card_Iio]

/-- The first `K` positions of the sort hold exactly the entries of rank below `K`. -/
theorem exists_position_iff (c : Fin n → EReal) (R : Fin n → Fin n → Bool) (hR : ∀ x y, R x y = true ↔ c y < c x)
    (K : ℕ) (j : Fin n) : (∃ p : Fin n, p.val < K ∧ sortedFrom R p = j) ↔ rank c j < K := by
  constructor
  · rintro ⟨p, hp, rfl⟩
    rw [rank_sortedFrom c R hR]; exact hp
  · intro h
    obtain ⟨p, rfl⟩ := sortedFrom_surjective R j
    exact ⟨p, by rwa [rank_sortedFrom c R hR] at h, rfl⟩

end Cert.TopSel

end
-- ==== Proof.Select.lean ====
/- What the kernel's selection computes in each row: the threshold and cut it finds keep exactly the 17 first entries of
   the row in descending order, the earlier of equal ones first. -/
module

public import proofs.«01_k».proof.Proof.Rows
public import proofs.«01_k».proof.Proof.TopSel
public import Idealize.ShloMosaic.Lib.Pointwise
public import Idealize.ShloMosaic.Lib.IndicatorCount
public import Idealize.ShloMosaic.Lib.WordCmp

@[expose] public section

set_option maxRecDepth 65536

noncomputable section

namespace Cert.KernelIdeal.Rows

open Cert.KernelIdeal Cert.KernelIdeal.Gen Cert.KernelIdeal.Body
open Idealize.ShloMosaic
open Idealize.ShloMosaic.WordCmp
open Cert.TopSel (mx nm count rank halve Holds)

/-- The float negative infinity. -/
theorem ofBits_negInf : Ideal.ofBits .f32 0xFF800000#32 = ⊥ := by simp [Ideal.ofBits, Ideal.ieee]

/-- A choice on a bit that is not one. -/
theorem select_ne {α : Type} {c : BitVec 1} (h : ¬ c = 1#1) (x y : α) : Scalar.select c x y = y := if_neg h

/-- A conjunction of bits is one when both are. -/
theorem andi_iff (a b : BitVec 1) : IntOp.andi a b = 1#1 ↔ a = 1#1 ∧ b = 1#1 := by revert a b; decide
/-- A disjunction of bits is one when either is. -/
theorem ori_iff (a b : BitVec 1) : IntOp.ori a b = 1#1 ↔ a = 1#1 ∨ b = 1#1 := by revert a b; decide

/-- A comparison of integers at an index. -/
theorem cmpi_at {s : Shape} {w : ℕ} (p : CmpIPredicate) (x y : IVec s w) (i : s.Idx) :
    cmpi p x y i = IntOp.cmpi p (x i) (y i) := rfl

/-- A comparison with zero, as a bit. -/
theorem ogt_zero (x : Ideal .f32) : Scalar.cmpf .ogt x (Scalar.ofBits .f32 0x00000000#32) = BitVec.ofBool (decide ((0 : EReal) < x)) := by
  show BitVec.ofBool (decide (Ideal.ofBits .f32 0x00000000#32 < x)) = _
  rw [Ideal.ofBits_zero_f32]

/-- The two ends between which every entry must lie, −3·10³⁸ and 3·10³⁸ as words. -/
def lo : EReal := Ideal.ofBits .f32 0xFF61B1E6#32
def hi : EReal := Ideal.ofBits .f32 0x7F61B1E6#32

/-- Row `r` of a matrix. -/
def row (v : Mat) (r : Fin 2048) : Fin 2048 → EReal := fun k => v (ix2 r k)

variable (v : Mat) (r : Fin 2048)

/-- The next maximum of a row is the next lower value of its entries. -/
theorem nextMax_apply (q : Col) : nextMax v q (ix2 r 0) = nm (row v r) lo (q (ix2 r 0)) := by
  pointwise [nextMax, nextMaxOf]
  unfold nm row lo
  rw [ofBits_negInf]

/-- The maxima in turn are those of the row. -/
theorem chain_apply (t : ℕ) : chain v t (ix2 r 0) = mx (row v r) lo hi t := by
  induction t with
  | zero => exact nextMax_apply v r _
  | succ t ih => exact (nextMax_apply v r _).trans (by rw [ih]; rfl)

/-- The table holds them place by place. -/
theorem tab_apply (p : Fin 17) : tab v (ix2 r p) = chain v p (ix2 r 0) := by
  have h : tab v = concatenate S2048x17 1 (List.ofFn fun p : Fin 17 => (⟨S2048x1, chain v p⟩ : (s : Shape) × (s.Idx → Ideal .f32)))
    concatenates_S2048x1_S2048x1_S2048x1_S2048x1_S2048x1_S2048x1_S2048x1_S2048x1_S2048x1_S2048x1_S2048x1_S2048x1_S2048x1_S2048x1_S2048x1_S2048x1_S2048x1_S2048x17_d1 := rfl
  rw [h]
  pointwise

/-- The value at a place below 17 is the distinct maximum of that number. -/
theorem place_apply (t : ICol) (p : ℕ) (hp : p < 17) (ht : t (ix2 r 0) = BitVec.ofNat 32 p) :
    place (tab v) t (ix2 r 0) = mx (row v r) lo hi p := by
  have h : place (tab v) t (ix2 r 0)
      = ∑ x : Fin 17, Scalar.select (IntOp.cmpi .eq (BitVec.ofNat 32 x.val) (t (ix2 r 0))) (tab v (ix2 r x)) 0 := by
    pointwise [place, placeSum, places]
  rw [h, Finset.sum_eq_single ⟨p, hp⟩]
  · rw [ht, IntOp.cmpi_eq_self, tab_apply, chain_apply]; rfl
  · intro x _ hx
    rw [ht, cmpi_eq_ofNat (by have := x.isLt; omega) (by omega), select_ofBool]
    rw [if_neg]
    simpa using fun e : x.val = p => hx (Fin.ext e)
  · exact fun h => absurd (Finset.mem_univ _) h

/-- A row's count of flags, where a flag is set exactly where `p` holds. -/
theorem rowCount_apply (b : IVec S2048x2048 1) (p : Fin 2048 → Prop) (h : ∀ k, b (ix2 r k) = 1#1 ↔ p k) :
    rowCount b (ix2 r 0) = BitVec.ofNat 32 (count p) := by
  have e : rowCount b (ix2 r 0) = Finset.univ.fold IntOp.addi (0#32) fun x : Fin 2048 => BitVec.setWidth 32 (b (ix2 r x)) := by
    pointwise [rowCount]
  rw [e, IndicatorCount.fold_addi_setWidth_eq_card, ← TopSel.count_eq_card, TopSel.count_congr h]

/-- How many entries of a row are no less than a value. -/
theorem atLeast_apply (q : Col) (T : EReal) (hq : q (ix2 r 0) = T) :
    atLeast v q (ix2 r 0) = BitVec.ofNat 32 (count fun k => T ≤ row v r k) := by
  refine rowCount_apply r _ _ fun k => ?_
  have e : (cmpf .oge v (broadcastTo S2048x2048 q broadcasts_S2048x1_S2048x2048)) (ix2 r k)
      = BitVec.ofBool (decide (q (ix2 r 0) ≤ v (ix2 r k))) := by
    pointwise
  rw [e, hq, ofBool_eq_one_iff, decide_eq_true_iff]
  rfl

/-- A count along a row fits a word. -/
theorem count_small (p : Fin 2048 → Prop) : count p < 2 ^ (32 - 1) :=
  lt_of_le_of_lt (TopSel.count_le p) (by norm_num)

/-- The test of the count search, at a place. -/
theorem enough_apply (t : ICol) (p : ℕ) (hp : p < 17) (ht : t (ix2 r 0) = BitVec.ofNat 32 p) :
    enough v (tab v) t (ix2 r 0) = 1#1 ↔ 17 ≤ count fun k => mx (row v r) lo hi p ≤ row v r k := by
  show IntOp.cmpi .sge (atLeast v (place (tab v) t) (ix2 r 0)) (17#32) = 1#1 ↔ _
  rw [atLeast_apply v r _ _ (place_apply v r t p hp ht)]
  exact cmpi_sge_ofNat_eq_one_iff (count_small _) (by norm_num)

/-- The test of the tie search, at a column. -/
theorem enoughTies_apply (t : Col) (s k : ICol) (T : EReal) (S p : ℕ) (hp : p < 2048) (hS : S < 2048)
    (ht : t (ix2 r 0) = T) (hs : s (ix2 r 0) = BitVec.ofNat 32 S) (hk : k (ix2 r 0) = BitVec.ofNat 32 p) :
    enoughTies v t s k (ix2 r 0) = 1#1 ↔ S ≤ count fun x => row v r x = T ∧ x.val ≤ p := by
  have e : rowCount (andi (cmpf .oeq v (broadcastTo S2048x2048 t broadcasts_S2048x1_S2048x2048))
      (cmpi .sle cols (broadcastTo S2048x2048 k broadcasts_S2048x1_S2048x2048))) (ix2 r 0)
      = BitVec.ofNat 32 (count fun x => row v r x = T ∧ x.val ≤ p) := by
    refine rowCount_apply r _ _ fun x => ?_
    have e : (andi (cmpf .oeq v (broadcastTo S2048x2048 t broadcasts_S2048x1_S2048x2048))
      (cmpi .sle cols (broadcastTo S2048x2048 k broadcasts_S2048x1_S2048x2048))) (ix2 r x)
        = IntOp.andi (BitVec.ofBool (decide (v (ix2 r x) = t (ix2 r 0)))) (IntOp.cmpi .sle (BitVec.ofNat 32 x.val) (k (ix2 r 0))) := by
      pointwise [cols]
    rw [e, ht, hk, cmpi_sle_ofNat (by have := x.isLt; omega) (by omega)]
    rw [andi_iff, ofBool_eq_one_iff, ofBool_eq_one_iff, decide_eq_true_iff, decide_eq_true_iff]
    rfl
  unfold enoughTies
  rw [cmpi_at, e, hs]
  exact cmpi_sge_ofNat_eq_one_iff (count_small _) (by omega)

/-- In row `r` the interval is `a`. -/
def AtRow (s : ICol × ICol) (a : ℕ × ℕ) : Prop :=
  s.1 (ix2 r 0) = BitVec.ofNat 32 a.1 ∧ s.2 (ix2 r 0) = BitVec.ofNat 32 a.2

/-- A word shifted right by one is halved. -/
theorem shr_one (a : ℕ) (ha : a < 2 ^ 31) : IntOp.shrsi .vector (BitVec.ofNat 32 a) 1#32 = BitVec.ofNat 32 (a / 2) := by
  unfold IntOp.shrsi
  rw [if_pos (by decide)]
  apply BitVec.eq_of_toInt_eq
  rw [BitVec.toInt_sshiftRight', toInt_ofNat_of_lt (by omega), toInt_ofNat_of_lt (by omega)]
  simp [Int.shiftRight_eq_div_pow]

/-- The middle of two ends. -/
theorem middle_apply (s : ICol × ICol) (a : ℕ × ℕ) (h : AtRow r s a) (ha : a.1 + a.2 < 2 ^ 31) :
    middle s (ix2 r 0) = BitVec.ofNat 32 ((a.1 + a.2) / 2) := by
  show IntOp.shrsi .vector (s.1 (ix2 r 0) + s.2 (ix2 r 0)) 1#32 = _
  rw [h.1, h.2, ← BitVec.ofNat_add, shr_one _ ha]

/-- One halving step in a row: where the step's test means `P` of the middle, the interval is halved for `P`. -/
theorem step_apply {P : ℕ → Prop} {B : ℕ} (hB : B < 2 ^ 30) (hP : ∀ x y, x ≤ y → P x → P y) (e : ICol → BCol)
    (he : ∀ t n, n ≤ B → t (ix2 r 0) = BitVec.ofNat 32 n → (e t (ix2 r 0) = 1#1 ↔ P n))
    {w : ℕ} {s : ICol × ICol} (h : ∃ a, AtRow r s a ∧ Holds P B w a) :
    ∃ a, AtRow r (step e s) a ∧ Holds P B (w / 2) a := by
  obtain ⟨a, ha, hh⟩ := h
  refine ⟨halve P a, ?_, hh.halve hP⟩
  have hm := middle_apply r s a ha (by have := hh.1; have := hh.2.1; omega)
  have hc := he (middle s) _ (by have := hh.1; have := hh.2.1; omega) hm
  unfold halve AtRow
  by_cases hp : P ((a.1 + a.2) / 2)
  · rw [if_pos hp]
    have h1 := hc.2 hp
    refine ⟨?_, ?_⟩
    · show Scalar.select (e (middle s) (ix2 r 0)) _ _ = _
      rw [h1]; exact ha.1
    · show Scalar.select (e (middle s) (ix2 r 0)) _ _ = _
      rw [h1]; exact hm
  · rw [if_neg hp]
    have h1 : ¬ e (middle s) (ix2 r 0) = 1#1 := fun h => hp (hc.1 h)
    refine ⟨?_, ?_⟩
    · show Scalar.select (e (middle s) (ix2 r 0)) _ (middle s (ix2 r 0) + 1#32) = _
      rw [select_ne h1, hm, ← BitVec.ofNat_add]
    · show Scalar.select (e (middle s) (ix2 r 0)) _ _ = _
      rw [select_ne h1]; exact ha.2

/-- Steps of a search on words are steps of the search on numbers. -/
theorem steps_apply {P : ℕ → Prop} {B : ℕ} (hB : B < 2 ^ 30) (hP : ∀ x y, x ≤ y → P x → P y) (e : ICol → BCol)
    (he : ∀ t n, n ≤ B → t (ix2 r 0) = BitVec.ofNat 32 n → (e t (ix2 r 0) = 1#1 ↔ P n))
    {s : ICol × ICol} (n : ℕ) (hn : B < 2 ^ n) (h : ∃ a, AtRow r s a ∧ Holds P B B a) :
    ∃ a, AtRow r ((step e)^[n] s) a ∧ Holds P B 0 a := by
  have key : ∀ m, ∃ a, AtRow r ((step e)^[m] s) a ∧ Holds P B (B / 2 ^ m) a := by
    intro m
    induction m with
    | zero => simpa using h
    | succ m ih =>
      rw [Function.iterate_succ_apply', pow_succ, ← Nat.div_div_eq_div_mul]
      exact step_apply r hB hP e he ih
  simpa [Nat.div_eq_of_lt hn] using key n

/-- How many entries of the row lie at or above its `p`-th distinct maximum. -/
def cge (p : ℕ) : ℕ := count fun k => mx (row v r) lo hi p ≤ row v r k

/-- Every entry of the matrix lies strictly between the two ends. -/
def Between : Prop := ∀ r k, lo < v (ix2 r k) ∧ v (ix2 r k) < hi

section
variable (hv : Between v)
include hv

/-- At a further place no fewer entries are counted. -/
theorem cge_mono {p q : ℕ} (h : p ≤ q) : cge v r p ≤ cge v r q :=
  TopSel.count_mx_mono _ _ _ (by norm_num) (fun k => (hv r k).1) (fun k => (hv r k).2) h

/-- At the last place there are enough. -/
theorem cge_last : 17 ≤ cge v r 16 :=
  le_trans (by norm_num) (TopSel.count_mx (row v r) lo hi (by norm_num) (fun k => (hv r k).1) (fun k => (hv r k).2) 16)

/-- The count search finds the first place with 17 entries at or above it. -/
theorem found_apply : ∃ p, p ≤ 16 ∧ found v (tab v) (ix2 r 0) = BitVec.ofNat 32 p ∧ 17 ≤ cge v r p ∧ ∀ x < p, ¬ 17 ≤ cge v r x := by
  obtain ⟨a, ha, hh⟩ := steps_apply r (P := fun p => 17 ≤ cge v r p) (B := 16) (by norm_num)
    (fun x y h hx => hx.trans (cge_mono v r hv h)) (enough v (tab v))
    (fun t n hn ht => enough_apply v r t n (by omega) ht) (s := start17) 5 (by norm_num)
    ⟨(0, 16), ⟨rfl, rfl⟩, by norm_num, le_rfl, le_rfl, cge_last v r hv, by simp⟩
  obtain ⟨-, h2, h3, h4⟩ := hh.first
  exact ⟨a.1, h2, ha.1, h3, h4⟩

/-- What the search leaves in row `r`: a threshold `T` with fewer than 17 entries above it and at least 17 at or above it,
    the room for those equal to it, and whether they are more than the room. -/
theorem threshold_apply : ∃ (T : EReal) (G : ℕ), thr v (tab v) (ix2 r 0) = T
    ∧ G = count (fun k => T < row v r k) ∧ G < 17 ∧ 17 ≤ count (fun k => T ≤ row v r k)
    ∧ room v (tab v) (ix2 r 0) = BitVec.ofNat 32 (17 - G)
    ∧ (over v (tab v) (ix2 r 0) = 1#1 ↔ 17 < count fun k => T ≤ row v r k) := by
  obtain ⟨p, hp, hf, hP, hlt⟩ := found_apply v r hv
  have hT : thr v (tab v) (ix2 r 0) = mx (row v r) lo hi p := by
    rw [thr_eq]; exact place_apply v r _ p (by omega) hf
  have hG := TopSel.count_above (row v r) lo hi (by norm_num) (fun k => (hv r k).1) (fun k => (hv r k).2) p
  set G := count fun k => mx (row v r) lo hi p < row v r k with hGdef
  have hG17 : G < 17 := by
    rcases Nat.eq_zero_or_pos p with h0 | h0
    · rw [if_pos h0] at hG; omega
    · rw [if_neg h0.ne'] at hG; rw [hG]; exact not_le.1 (hlt (p - 1) (by omega))
  have hab : above v (tab v) (ix2 r 0) = BitVec.ofNat 32 G := by
    show Scalar.select (IntOp.cmpi .sgt (found v (tab v) (ix2 r 0)) 0#32)
      (atLeast v (place (tab v) (maxsi (subi (found v (tab v)) (broadcast S2048x1 1#32)) (broadcast S2048x1 0#32))) (ix2 r 0)) 0#32 = _
    rw [hf, show (0#32 : BitVec 32) = BitVec.ofNat 32 0 from rfl, cmpi_sgt_ofNat (by omega) (by omega), select_ofBool]
    rcases Nat.eq_zero_or_pos p with h0 | h0
    · rw [if_pos h0] at hG; rw [if_neg (by simp [h0]), hG]
    · rw [if_neg h0.ne'] at hG
      rw [if_pos (by simpa using h0), hG]
      refine atLeast_apply v r _ _ (place_apply v r _ (p - 1) (by omega) ?_)
      show IntOp.maxsi (found v (tab v) (ix2 r 0) - 1#32) 0#32 = _
      rw [hf]
      have : BitVec.ofNat 32 p - 1#32 = BitVec.ofNat 32 (p - 1) := by
        rw [BitVec.ofNat_sub_ofNat_of_le _ _ (by norm_num) h0]
      rw [this]
      interval_cases p <;> rfl
  have hroom : room v (tab v) (ix2 r 0) = BitVec.ofNat 32 (17 - G) := by
    rw [room_eq]
    show 17#32 - above v (tab v) (ix2 r 0) = _
    rw [hab, BitVec.ofNat_sub_ofNat_of_le _ _ (by omega) hG17.le]
  have hsub : G ≤ count fun k => mx (row v r) lo hi p ≤ row v r k := TopSel.count_mono fun k hk => le_of_lt hk
  refine ⟨_, G, hT, hGdef, hG17, hP, hroom, ?_⟩
  rw [over_eq]
  show IntOp.cmpi .sgt (atLeast v (thr v (tab v)) (ix2 r 0) - above v (tab v) (ix2 r 0)) (room v (tab v) (ix2 r 0)) = 1#1 ↔ _
  have hc := count_small (fun k => mx (row v r) lo hi p ≤ row v r k)
  rw [atLeast_apply v r _ _ hT, hab, hroom, BitVec.ofNat_sub_ofNat_of_le _ _ (by omega) hsub,
    cmpi_sgt_ofNat_eq_one_iff (by omega) (by omega)]
  omega

/-- Where some row is over, the branch takes the tie search. -/
theorem branch_over (h : over v (tab v) (ix2 r 0) = 1#1) (t : Col) (s : ICol) :
    branch v cols t s (anyOver v (tab v)) = tieEnd v cols t s := by
  have e : k0_pay86 (anyOver v (tab v)) = Finset.univ.fold max (⊥ : EReal)
      (fun x : Fin 2048 × Fin 1 => Scalar.select (over v (tab v) (ix2 x.1 0)) 1 0) := by
    have e1 : anyOver v (tab v) = shapeCast S1x1x1 (multiReduction (F := Ideal) .maximumf [1, 2] S1 (shapeCast S1x2048x1
        (select (over v (tab v)) (broadcast S2048x1 (Scalar.ofBits .f32 0x3F800000#32)) (broadcast S2048x1 (Scalar.ofBits .f32 0x00000000#32) : Col))
        shapeCasts_S2048x1_S1x2048x1) 0xFF800000#32 reduces_S1x2048x1_S1 (.inl rfl) rfl) shapeCasts_S1_S1x1x1 := rfl
    rw [e1]
    pointwise [k0_pay86]
    rw [ofBits_negInf]
  have h1 : (0 : EReal) < k0_pay86 (anyOver v (tab v)) := by
    rw [e]
    refine (Finset.lt_fold_max _).2 (Or.inr ⟨(r, 0), Finset.mem_univ _, ?_⟩)
    dsimp only
    rw [h]
    exact zero_lt_one
  unfold branch
  rw [if_pos]
  have h2 : Scalar.cmpf .ogt (k0_pay86 (anyOver v (tab v))) (Scalar.ofBits .f32 0x00000000#32) = 1#1 := by
    rw [ogt_zero, ofBool_eq_one_iff, decide_eq_true_iff]
    exact h1
  rw [h2]
  rfl

/-- The flag the kernel keeps an entry by: above the threshold, or equal to it in a column up to the cut. -/
def keepBit (k : Fin 2048) : BitVec 1 :=
  IntOp.ori (BitVec.ofBool (decide (thr v (tab v) (ix2 r 0) < v (ix2 r k))))
    (IntOp.andi (BitVec.ofBool (decide (v (ix2 r k) = thr v (tab v) (ix2 r 0))))
      (IntOp.cmpi .sle (BitVec.ofNat 32 k.val)
        (Scalar.select (over v (tab v) (ix2 r 0))
          (branch v cols (thr v (tab v)) (room v (tab v)) (anyOver v (tab v)) (ix2 r 0)) 2047#32)))

/-- It is set exactly for the 17 first entries of the row. -/
theorem keepBit_iff (k : Fin 2048) : keepBit v r k = 1#1 ↔ rank (row v r) k < 17 := by
  obtain ⟨T, G, hT, hG, hG17, hC, hroom, hover⟩ := threshold_apply v r hv
  obtain ⟨cut, hcut, hsel, hcase⟩ : ∃ cut : ℕ, cut < 2048 ∧
      Scalar.select (over v (tab v) (ix2 r 0))
          (branch v cols (thr v (tab v)) (room v (tab v)) (anyOver v (tab v)) (ix2 r 0)) 2047#32 = BitVec.ofNat 32 cut ∧
      ((17 - G ≤ count (fun k => row v r k = T ∧ k.val ≤ cut)
              ∧ ∀ x < cut, count (fun k => row v r k = T ∧ k.val ≤ x) < 17 - G)
            ∨ (count (fun k => T ≤ row v r k) = 17 ∧ ∀ k : Fin 2048, k.val ≤ cut)) := by
    by_cases ho : over v (tab v) (ix2 r 0) = 1#1
    · have hend : 17 - G ≤ count fun k : Fin 2048 => row v r k = T ∧ k.val ≤ 2047 := by
        have hsplit : count (fun k => T ≤ row v r k) ≤ count (fun k => T < row v r k) + count fun k : Fin 2048 => row v r k = T ∧ k.val ≤ 2047 := by
          rw [← TopSel.count_or fun k h e => h.ne' e.1]
          exact TopSel.count_mono fun k h => h.lt_or_eq.imp id fun e => ⟨e.symm, by have := k.isLt; omega⟩
        omega
      obtain ⟨a, ha, hh⟩ := steps_apply r (P := fun p => 17 - G ≤ count fun k : Fin 2048 => row v r k = T ∧ k.val ≤ p) (B := 2047)
        (by norm_num) (fun x y h hx => hx.trans (TopSel.count_mono fun k hk => ⟨hk.1, hk.2.trans h⟩))
        (enoughTies v (thr v (tab v)) (room v (tab v)))
        (fun t n hn ht => enoughTies_apply v r _ _ t T (17 - G) n (by omega) (by omega) hT hroom ht)
        (s := (broadcast S2048x1 0#32, broadcast S2048x1 2047#32)) 11 (by norm_num)
        ⟨(0, 2047), ⟨rfl, rfl⟩, by norm_num, le_rfl, le_rfl, hend, by simp⟩
      obtain ⟨h1, h2, h3, h4⟩ := hh.first
      refine ⟨a.2, by omega, ?_, Or.inl ⟨h1 ▸ h3, fun x hx => not_le.1 (h4 x (h1 ▸ hx))⟩⟩
      rw [branch_over v r hv ho, tieEnd_eq, select_of_eq_one ho]
      exact ha.2
    · refine ⟨2047, by norm_num, select_ne ho _ _, Or.inr ⟨le_antisymm (not_lt.1 fun h => ho (hover.2 h)) hC, fun k => by
        have := k.isLt; omega⟩⟩
  rw [← TopSel.kept_iff (row v r) T cut (hG ▸ hG17) hC (by rw [← hG]; exact hcase) k]
  unfold keepBit
  rw [ori_iff, andi_iff, hT, hsel, ofBool_eq_one_iff, ofBool_eq_one_iff, decide_eq_true_iff, decide_eq_true_iff,
    cmpi_sle_ofNat_eq_one_iff (by have := k.isLt; omega) (by omega)]
  rfl

end

end Cert.KernelIdeal.Rows

end
-- ==== Proof.Net.lean ====
/- The network's mathematics over extended reals: the correlation matrix of a batch, its normalised adjacency, the
   right-hand side of the flow in two forms, and the four integration steps. Plain mathematics: no program is mentioned
   here. -/
module

public import proofs.«01_k».proof.Proof.Normal
public import proofs.«01_k».proof.Proof.TopSel

@[expose] public section

noncomputable section

namespace Cert.Net

open Idealize.ShloMosaic
open Cert.Normal

/-- A square matrix of a batch, the input rows, the tokens, and the weights. -/
abbrev Sq := Fin 2048 → Fin 2048 → EReal
abbrev Inp := Fin 2048 → Fin 128 → EReal
abbrev Tok := Fin 2048 → Fin 32 → EReal
abbrev Wt := Fin 32 → Fin 32 → EReal

/-- The correlation of rows `r` and `s`. -/
def cor (X : Inp) : Sq := fun r s => Ideal.div (∑ k, normal (X r) k * normal (X s) k) n127

/-- The correlations are real numbers less than 200 in magnitude, whatever the rows. -/
theorem cor_real (X : Inp) : ∃ C : Fin 2048 → Fin 2048 → ℝ, (∀ r s, cor X r s = (C r s : EReal)) ∧ ∀ r s, |C r s| < 200 := by
  choose y h1 _ h3 using fun r => normal_spec (X r)
  refine ⟨fun r s => (∑ k, y r k * y s k) / 127, fun r s => ?_, fun r s => corr_spec _ _ (h3 r) (h3 s)⟩
  unfold cor
  simp only [h1, ← EReal.coe_mul]
  rw [sum_coe, n127_eq, Ideal.div_coe (by norm_num), ← EReal.coe_mul, mul_one_div]

/-- Multiplying by 1/127 is dividing by 127. -/
theorem mul_inv127 (x : EReal) : x * ((1 / 127 : ℝ) : EReal) = Ideal.div x n127 := by
  rw [n127_eq, Ideal.div_coe (by norm_num)]

/-- The same correlation from rows normalised the second way. -/
theorem cor_normal2 (X : Inp) (r s : Fin 2048) : Ideal.div (∑ k, normal2 (X r) k * normal2 (X s) k) n127 = cor X r s := by
  choose y h1 h2 _ using fun r => normal_spec (X r)
  unfold cor
  simp only [h1, h2]

/-- The 17 first entries of a row kept, the others cut to zero. -/
def mask (c : Sq) : Sq := fun r k => if TopSel.rank (c r) k < 17 then c r k else 0

/-- One half, as the programs hold it. -/
def half : EReal := Ideal.ofBits .f32 1056964608#32

/-- The kept entries made symmetric, plus the identity. -/
def sym (c : Sq) : Sq := fun r k => half * (mask c r k + mask c k r) + if r = k then 1 else 0

/-- A row's degree, cut from below. -/
def deg (c : Sq) (r : Fin 2048) : EReal := max (∑ x, sym c r x) eps

/-- The normalised adjacency. -/
def adj (c : Sq) : Sq := fun r k => sym c r k * Ideal.rsqrt (deg c r) * Ideal.rsqrt (deg c k)

/-- The symmetric matrix is real where its correlations are. -/
theorem sym_real {c : Sq} (h : ∀ r k, IsReal (c r k)) (r k : Fin 2048) : IsReal (sym c r k) := by
  have hm : ∀ r k, IsReal (mask c r k) := fun r k => by
    unfold mask; split
    · exact h r k
    · exact isReal_zero
  unfold sym
  refine ((ofBits_real _ (by decide)).mul ((hm r k).add (hm k r))).add ?_
  split
  · exact isReal_one
  · exact isReal_zero

/-- The degrees are real and positive where the correlations are real. -/
theorem deg_real {c : Sq} (h : ∀ r k, IsReal (c r k)) (r : Fin 2048) : ∃ d : ℝ, 0 < d ∧ deg c r = (d : EReal) := by
  have he : IsReal eps := ⟨_, eps_eq⟩
  obtain ⟨d, hd⟩ := (IsReal.sum (sym_real h r)).max he
  refine ⟨d, ?_, hd⟩
  have : (e6 : EReal) ≤ (d : EReal) := by rw [← hd, ← eps_eq]; exact le_max_right _ _
  exact lt_of_lt_of_le e6_pos (EReal.coe_le_coe_iff.1 this)

/-- The reciprocal square root of a positive real number. -/
theorem rsqrt_real {d : ℝ} (hd : 0 < d) : Ideal.rsqrt (d : EReal) = (((Real.sqrt d)⁻¹ : ℝ) : EReal) := by
  rw [Ideal.rsqrt_coe, if_neg hd.not_gt, if_neg hd.ne']

/-- The float the reference raises the degrees to is -1/2. -/
theorem negHalf_eq : Ideal.ofBits .f32 3204448256#32 = ((-(1 / 2) : ℝ) : EReal) := by
  simp [Ideal.ofBits, Ideal.ieee]; rw [← EReal.coe_mul, EReal.coe_eq_coe_iff]; norm_num

/-- The power −1/2 of a degree is its reciprocal root. -/
theorem pow_deg {c : Sq} (h : ∀ r k, IsReal (c r k)) (r : Fin 2048) :
    Ideal.pow (deg c r) (Ideal.ofBits .f32 3204448256#32) = Ideal.rsqrt (deg c r) := by
  obtain ⟨d, hd, e⟩ := deg_real h r
  rw [e, negHalf_eq, Ideal.pow_coe_coe, rsqrt_real hd]
  congr 1
  show d ^ (-(1 / 2) : ℝ) = _
  rw [Real.rpow_neg hd.le, ← Real.sqrt_eq_rpow]

/-- The adjacency is real where its correlations are. -/
theorem adj_real {c : Sq} (h : ∀ r k, IsReal (c r k)) (r k : Fin 2048) : IsReal (adj c r k) := by
  obtain ⟨d, hd, e⟩ := deg_real h r
  obtain ⟨d', hd', e'⟩ := deg_real h k
  unfold adj
  rw [e, e', rsqrt_real hd, rsqrt_real hd']
  exact ((sym_real h r k).mul ⟨_, rfl⟩).mul ⟨_, rfl⟩

/-- The right-hand side, the tokens minus their smoothed selves scaled by `al`, plus the smoothed ones through the weights. -/
def rhs (a : Sq) (al : EReal) (th : Wt) (y : Tok) : Tok := fun r k =>
  al * (y r k - ∑ x, a r x * y x k) + ∑ x, (∑ z, a r z * y z x) * th k x

/-- The same with the matrix `1 − a` formed first. -/
def rhs2 (a : Sq) (al : EReal) (th : Wt) (y : Tok) : Tok := fun r k =>
  al * (∑ x, ((if r = x then 1 else 0) - a r x) * y x k) + ∑ x, (∑ z, a r z * y z x) * th k x

/-- All entries are real. -/
def Finite (y : Tok) : Prop := ∀ r k, IsReal (y r k)

/-- On finite tokens, with a real matrix, the two right-hand sides agree. -/
theorem rhs2_eq {a : Sq} (ha : ∀ r k, IsReal (a r k)) (al : EReal) (th : Wt) {y : Tok} (hy : Finite y) :
    rhs2 a al th y = rhs a al th y := by
  choose A hA using ha
  choose Y hY using hy
  funext r k
  unfold rhs2 rhs
  have e : ∑ x, ((if r = x then 1 else 0) - a r x) * y x k = y r k - ∑ x, a r x * y x k := by
    have e1 : ∀ x, ((if r = x then (1 : EReal) else 0) - a r x) * y x k = (((if r = x then 1 else 0) - A r x) * Y x k : ℝ) := by
      intro x
      rw [hA, hY, EReal.coe_mul, EReal.coe_sub]
      split <;> rfl
    have e2 : ∀ x, a r x * y x k = ((A r x * Y x k : ℝ) : EReal) := fun x => by rw [hA, hY, EReal.coe_mul]
    simp only [e1, e2]
    rw [sum_coe, sum_coe, hY, ← EReal.coe_sub, EReal.coe_eq_coe_iff]
    simp only [sub_mul, Finset.sum_sub_distrib]
    simp
  rw [e]

/-- Of real arguments the right-hand side is real. -/
theorem rhs_finite {a : Sq} (ha : ∀ r k, IsReal (a r k)) {al : EReal} (hal : IsReal al) {th : Wt} (hth : ∀ r k, IsReal (th r k))
    {y : Tok} (hy : Finite y) : Finite (rhs a al th y) := fun r k =>
  (hal.mul ((hy r k).sub (IsReal.sum fun x => (ha r x).mul (hy x k)))).add
    (IsReal.sum fun x => (IsReal.sum fun z => (ha r z).mul (hy z x)).mul (hth k x))

/-- A matrix plus a multiple of another. -/
def axpy (l : EReal) (y k : Tok) : Tok := fun r x => y r x + l * k r x

/-- Half a step, a step, a sixth of a step, and two, as the programs hold them. -/
def hHalf : EReal := Ideal.ofBits .f32 0x3CCCCCCD#32
def hFull : EReal := Ideal.ofBits .f32 0x3D4CCCCD#32
def hSixth : EReal := Ideal.ofBits .f32 0x3C088889#32
def two : EReal := Ideal.ofBits .f32 0x40000000#32

/-- The weighted sum of the four slopes. -/
def slopes (k1 k2 k3 k4 : Tok) : Tok := fun r x => k1 r x + two * k2 r x + two * k3 r x + k4 r x

/-- One step of the flow of `f`, its first slope given. -/
def stepFrom (f : Tok → Tok) (y k1 : Tok) : Tok :=
  axpy hSixth y (slopes k1 (f (axpy hHalf y k1)) (f (axpy hHalf y (f (axpy hHalf y k1))))
    (f (axpy hFull y (f (axpy hHalf y (f (axpy hHalf y k1)))))))
def step (f : Tok → Tok) (y : Tok) : Tok := stepFrom f y (f y)

/-- Four steps, cut at zero. -/
def flow (f : Tok → Tok) (y : Tok) : Tok := fun r x => max (step f (step f (step f (step f y))) r x) 0

/-- Sums and multiples of finite matrices are finite. -/
theorem axpy_finite {l : EReal} (hl : IsReal l) {y k : Tok} (hy : Finite y) (hk : Finite k) : Finite (axpy l y k) :=
  fun r x => (hy r x).add (hl.mul (hk r x))

section
variable {f g : Tok → Tok} (hf : ∀ y, Finite y → Finite (f y)) (h : ∀ y, Finite y → g y = f y)
include hf h

/-- Two right-hand sides that agree on finite matrices take the same step. -/
theorem step_congr {y : Tok} (hy : Finite y) : step g y = step f y ∧ Finite (step f y) := by
  have l1 : IsReal hHalf := ofBits_real _ (by decide)
  have l2 : IsReal hFull := ofBits_real _ (by decide)
  have l3 : IsReal hSixth := ofBits_real _ (by decide)
  have l4 : IsReal two := ofBits_real _ (by decide)
  have f1 := hf y hy
  have a1 := axpy_finite l1 hy f1
  have f2 := hf _ a1
  have a2 := axpy_finite l1 hy f2
  have f3 := hf _ a2
  have a3 := axpy_finite l2 hy f3
  have f4 := hf _ a3
  constructor
  · unfold step stepFrom
    rw [h y hy, h _ a1, h _ a2, h _ a3]
  · exact axpy_finite l3 hy fun r x => (((f1 r x).add (l4.mul (f2 r x))).add (l4.mul (f3 r x))).add (f4 r x)

/-- Two right-hand sides that agree on finite matrices have the same flow from one. -/
theorem flow_congr {y : Tok} (hy : Finite y) : flow g y = flow f y := by
  obtain ⟨e1, h1⟩ := step_congr hf h hy
  obtain ⟨e2, h2⟩ := step_congr hf h h1
  obtain ⟨e3, h3⟩ := step_congr hf h h2
  obtain ⟨e4, -⟩ := step_congr hf h h3
  unfold flow
  rw [e1, e2, e3, e4]

end

end Cert.Net

end
-- ==== Proof.Flow.lean ====
/- The kernel's value, entry by entry: its correlation, its adjacency and its integration are the network's. -/
module

public import proofs.«01_k».proof.Proof.Select
public import proofs.«01_k».proof.Proof.Net

@[expose] public section

set_option maxRecDepth 65536

noncomputable section

namespace Cert.KernelIdeal.Flow

open Cert.KernelIdeal Cert.KernelIdeal.Gen Cert.KernelIdeal.Body Cert.KernelIdeal.Rows
open Idealize.ShloMosaic Idealize.ShloMosaic.WordCmp
open Cert.Net Cert.Normal

/-- The tokens of a batch, and the weights. -/
abbrev TokV (F : FTy → Type) := FVec F S2048x32 .f32
abbrev WtV (F : FTy → Type) := FVec F S32x32 .f32
abbrev MatV (F : FTy → Type) := FVec F S2048x2048 .f32

variable {F : FTy → Type} [FloatOps F] [Named F]

/-! ## The integration -/

/-- A product with the adjacency, and one with the weights along their second axis. -/
def prod (a : MatV F) (y : TokV F) : TokV F :=
  matmul dot_S2048x2048_S2048x32_S2048x32_1_0_0_1_n_n none a y (constant S2048x32 .f32 0x00000000#32)
def through (h : WtV F) (p : TokV F) : TokV F :=
  matmul dot_S2048x32_S32x32_S2048x32_1_1_0_0_n_n none p h (constant S2048x32 .f32 0x00000000#32)
/-- The right-hand side, its product with the adjacency given. -/
def rhsFrom (c : F .f32) (h : WtV F) (y p : TokV F) : TokV F :=
  addf (mulf (broadcast S2048x32 c) (subf y p)) (through h p)
def rhsV (a : MatV F) (c : F .f32) (h : WtV F) (y : TokV F) : TokV F := rhsFrom c h y (prod a y)
/-- A matrix plus a multiple of another, the multiple given as a word. -/
def plus (b : BitVec 32) (y k : TokV F) : TokV F := addf y (mulf (broadcast S2048x32 (Scalar.ofBits .f32 b)) k)
/-- One step from its first slope. -/
def stepV (a : MatV F) (c : F .f32) (h : WtV F) (y k1 : TokV F) : TokV F :=
  have k2 : TokV F := rhsV a c h (plus 0x3CCCCCCD#32 y k1)
  have k3 : TokV F := rhsV a c h (plus 0x3CCCCCCD#32 y k2)
  have k4 : TokV F := rhsV a c h (plus 0x3D4CCCCD#32 y k3)
  plus 0x3C088889#32 y (addf (plus 0x40000000#32 (plus 0x40000000#32 k1 k2) k3) k4)

section
variable (a : MatV F) (c : F .f32) (h : WtV F) (y p : TokV F)

attribute [local irreducible] addf subf mulf maximumf broadcast constant

/-- The first step the program names is a step from its first slope. -/
theorem y1_eq : y1 a c h y p = stepV a c h y (rhsFrom c h y p) := rfl
/-- The second part of a slope: the smoothed tokens through the weights. -/
theorem y1b_eq : y1b a c h y p = through h (prod a (y1 a c h y p)) := rfl
/-- The first part of a slope: the tokens less the smoothed ones. -/
theorem y1c_eq : y1c a c h y p = subf (y1 a c h y p) (prod a (y1 a c h y p)) := rfl
/-- The second step, from the two parts of its first slope. -/
theorem y2_of (z : TokV F) : k0_pay97 a c h z (through h (prod a z)) (subf z (prod a z)) = stepV a c h z (rhsV a c h z) := rfl
/-- What the program carries from the second step to the third is the slope at the new tokens. -/
theorem y2b_of (z : TokV F) : k0_pay98 a c h z (through h (prod a z)) (subf z (prod a z))
    = rhsV a c h (stepV a c h z (rhsV a c h z)) := rfl
/-- The third step, its first slope given. -/
theorem y3_of (z k : TokV F) : k0_pay99 a c h z k = stepV a c h z k := rfl
/-- The slope after the third step. -/
theorem y3b_of (z k : TokV F) : k0_pay100 a c h z k = rhsV a c h (stepV a c h z k) := rfl
/-- Half a step of that slope. -/
theorem y3c_of (z k : TokV F) : k0_pay101 a c h z k = mulf (broadcast S2048x32 (Scalar.ofBits .f32 0x3CCCCCCD#32)) (rhsV a c h (stepV a c h z k)) := rfl
/-- The fourth step cut at zero, from the third one's tokens and slope. -/
theorem y4_of (z k : TokV F) : k0_pay102 a c h z k (mulf (broadcast S2048x32 (Scalar.ofBits .f32 0x3CCCCCCD#32)) k)
    = maximumf (stepV a c h z k) (broadcast S2048x32 (Scalar.ofBits .f32 0x00000000#32)) := rfl

/-- Four steps, the first product given as the adjacency's with the tokens. -/
theorem steps_eq (hp : p = prod a y) : steps a c h y p =
    maximumf (stepV a c h (stepV a c h (stepV a c h (stepV a c h y (rhsV a c h y))
      (rhsV a c h (stepV a c h y (rhsV a c h y))))
      (rhsV a c h (stepV a c h (stepV a c h y (rhsV a c h y)) (rhsV a c h (stepV a c h y (rhsV a c h y))))))
      (rhsV a c h (stepV a c h (stepV a c h (stepV a c h y (rhsV a c h y)) (rhsV a c h (stepV a c h y (rhsV a c h y))))
      (rhsV a c h (stepV a c h (stepV a c h y (rhsV a c h y)) (rhsV a c h (stepV a c h y (rhsV a c h y))))))))
      (broadcast S2048x32 (Scalar.ofBits .f32 0x00000000#32)) := by
  subst hp
  have e1 : y1 a c h y (prod a y) = stepV a c h y (rhsV a c h y) := y1_eq a c h y _
  have e2 : y2 a c h y (prod a y) = stepV a c h (y1 a c h y (prod a y)) (rhsV a c h (y1 a c h y (prod a y))) := y2_of a c h _
  have e2b : y2b a c h y (prod a y) = rhsV a c h (y2 a c h y (prod a y)) := by rw [e2]; exact y2b_of a c h _
  have e3 : y3 a c h y (prod a y) = stepV a c h (y2 a c h y (prod a y)) (y2b a c h y (prod a y)) := y3_of a c h _ _
  have e3b : y3b a c h y (prod a y) = rhsV a c h (y3 a c h y (prod a y)) := by rw [e3]; exact y3b_of a c h _ _
  have e3c : y3c a c h y (prod a y) = mulf (broadcast S2048x32 (Scalar.ofBits .f32 0x3CCCCCCD#32)) (y3b a c h y (prod a y)) := by
    rw [e3b, e3]; exact y3c_of a c h _ _
  unfold steps
  rw [e3c, y4_of, e3b, e3, e2b, e2, e1]

end

/-- A matrix read entry by entry. -/
def tok (y : TokV Ideal) : Tok := fun r k => y (ix2 r k)
def sq (a : Mat) : Sq := fun r k => a (ix2 r k)
def wt (h : WtV Ideal) : Wt := fun r k => h (ix2 r k)

section
variable (a : Mat) (c : Ideal .f32) (h : WtV Ideal) (y k : TokV Ideal)

/-- The right-hand side as the program forms it is `rhs` of its entries. -/
theorem tok_rhsV : tok (rhsV a c h y) = rhs (sq a) c (wt h) (tok y) := by
  funext r x
  unfold tok
  pointwise [rhsV, rhsFrom, prod, through]
  rfl

/-- A sum with a multiple, entry by entry. -/
theorem tok_plus (b : BitVec 32) : tok (plus b y k) = axpy (Ideal.ofBits .f32 b) (tok y) (tok k) := rfl

/-- A step as the program forms it is `stepFrom`. -/
theorem tok_stepV : tok (stepV a c h y k) = stepFrom (rhs (sq a) c (wt h)) (tok y) (tok k) := by
  unfold stepV stepFrom
  rw [tok_plus]
  have e : ∀ k1 k2 k3 k4 : TokV Ideal, tok (addf (plus 0x40000000#32 (plus 0x40000000#32 k1 k2) k3) k4)
      = slopes (tok k1) (tok k2) (tok k3) (tok k4) := fun _ _ _ _ => rfl
  rw [e]
  simp only [tok_rhsV, tok_plus]
  rfl

/-- The four steps as the program forms them are `flow`. -/
theorem tok_steps {p : TokV Ideal} (hp : p = prod a y) : tok (steps a c h y p) = flow (rhs (sq a) c (wt h)) (tok y) := by
  rw [steps_eq a c h y p hp]
  funext r x
  have e : ∀ z : TokV Ideal, tok (maximumf z (broadcast S2048x32 (Scalar.ofBits .f32 0x00000000#32))) r x = max (tok z r x) 0 := by
    intro z
    show max (z (ix2 r x)) (Ideal.ofBits .f32 0x00000000#32) = _
    rw [Ideal.ofBits_zero_f32]; rfl
  rw [e]
  simp only [tok_stepV, tok_rhsV]
  rfl

end

/-! ## The correlation and the adjacency -/

/-- A batch's block of input rows. -/
def inp (x : Vec Ideal S1x2048x128 .f32) : Inp := fun r k => x (ix3 0 r k)

/-- The named constant is 1/127. -/
theorem inv127_eq : (Named.named (F := Ideal) κ (φ := .f32) "inv127" 1006699012#32 : EReal) = ((1 / 127 : ℝ) : EReal) := rfl

/-- The correlations the program forms are `cor` of the rows. -/
theorem sq_corr (x : Vec Ideal S1x2048x128 .f32) : sq (corr x) = cor (inp x) := by
  funext r s
  unfold sq
  have e : corr x (ix2 r s) = (∑ k, normal (inp x r) k * normal (inp x s) k) * Named.named (F := Ideal) κ (φ := .f32) "inv127" 1006699012#32 := by
    pointwise [corr, k0_pay44]
    rfl
  rw [e, inv127_eq, mul_inv127]
  rfl

end Cert.KernelIdeal.Flow

end
-- ==== Proof.Stored.lean ====
/- What the kernel's body stores for a batch: the network's flow through the adjacency of the batch's correlations. -/
module

public import proofs.«01_k».proof.Proof.Flow

@[expose] public section

set_option maxRecDepth 65536

noncomputable section

namespace Cert.KernelIdeal.Flow

open Cert.KernelIdeal Cert.KernelIdeal.Gen Cert.KernelIdeal.Body Cert.KernelIdeal.Rows
open Idealize.ShloMosaic Idealize.ShloMosaic.WordCmp
open Cert.Net Cert.Normal

/-- A correlation is above the stand-in for negative infinity. -/
theorem lo_lt {C : ℝ} (h : |C| < 200) : lo < (C : EReal) := by
  have e : lo = ((-(14791142 * 2 ^ 104) : ℝ) : EReal) := by
    unfold lo; simp [Ideal.ofBits, Ideal.ieee]
  rw [e, EReal.coe_lt_coe_iff]
  have := (abs_lt.1 h).1
  have h2 : (200 : ℝ) ≤ 14791142 * 2 ^ 104 := by norm_num
  linarith

/-- A correlation is below the stand-in for positive infinity. -/
theorem lt_hi {C : ℝ} (h : |C| < 200) : (C : EReal) < hi := by
  have e : hi = (((14791142 * 2 ^ 104) : ℝ) : EReal) := by
    unfold hi; simp [Ideal.ofBits, Ideal.ieee]
  rw [e, EReal.coe_lt_coe_iff]
  have := (abs_lt.1 h).2
  have h2 : (200 : ℝ) ≤ 14791142 * 2 ^ 104 := by norm_num
  linarith

/-- A batch's correlations lie between the two ends of the selection. -/
theorem between (x : Vec Ideal S1x2048x128 .f32) : Between (corr x) := by
  obtain ⟨C, hC, hb⟩ := cor_real (inp x)
  intro r k
  have e : corr x (ix2 r k) = (C r k : EReal) := by rw [← hC, ← sq_corr]; rfl
  rw [e]
  exact ⟨lo_lt (hb r k), lt_hi (hb r k)⟩

/-- A correlation kept by its flag is the masked one. -/
theorem select_keep (x : Vec Ideal S1x2048x128 .f32) (r k : Fin 2048) :
    Scalar.select (keepBit (corr x) r k) (corr x (ix2 r k)) (0 : EReal) = mask (cor (inp x)) r k := by
  have hc : row (corr x) r = cor (inp x) r := by rw [← sq_corr]; rfl
  have h := keepBit_iff (corr x) r (between x) k
  rw [hc] at h
  unfold mask
  by_cases hr : TopSel.rank (cor (inp x) r) k < 17
  · rw [if_pos hr, h.2 hr, select_one, ← hc]; rfl
  · rw [if_neg hr, select_ne fun e => hr (h.1 e)]

/-- The choice that adds one on the diagonal. -/
theorem select_diag (r k : Fin 2048) :
    Scalar.select (IntOp.cmpi .eq (BitVec.ofNat 32 r.val) (BitVec.ofNat 32 k.val)) (1 : EReal) 0 = if r = k then 1 else 0 := by
  rw [cmpi_eq_ofNat (by have := r.isLt; omega) (by have := k.isLt; omega), select_ofBool]
  simp [Fin.ext_iff]

/-- The symmetric matrix the kernel forms before it normalises. -/
def symV (v : Mat) (r k : Fin 2048) : EReal :=
  Ideal.ofBits .f32 1056964608#32 * (Scalar.select (keepBit v r k) (v (ix2 r k)) 0 + Scalar.select (keepBit v k r) (v (ix2 k r)) 0)
    + Scalar.select (IntOp.cmpi .eq (BitVec.ofNat 32 r.val) (BitVec.ofNat 32 k.val)) 1 0

/-- The symmetric matrix the program forms is `sym` of the correlations. -/
theorem symV_eq (x : Vec Ideal S1x2048x128 .f32) (r k : Fin 2048) : symV (corr x) r k = sym (cor (inp x)) r k := by
  unfold symV sym
  rw [select_keep, select_keep, select_diag]
  rfl

/-- The adjacency at an index. -/
theorem adjOf_apply (v : Mat) (r k : Fin 2048) : adjOf v (tab v) (ix2 r k)
    = symV v r k * Ideal.rsqrt (max (∑ x, symV v r x) (Ideal.ofBits .f32 897988541#32))
      * Ideal.rsqrt (max (∑ x, symV v k x) (Ideal.ofBits .f32 897988541#32)) := by
  unfold symV keepBit adjOf
  pointwise [k0_pay89, cols]

/-- The adjacency the program forms is `adj` of the correlations. -/
theorem sq_adjOf (x : Vec Ideal S1x2048x128 .f32) : sq (adjOf (corr x) (table x)) = adj (cor (inp x)) := by
  funext r k
  unfold sq
  rw [table_eq, adjOf_apply]
  simp only [symV_eq]
  rfl

/-- A block of tokens, and the coefficient's one element. -/
def tokB (y : Vec Ideal S1x2048x32 .f32) : Tok := fun r k => y (ix3 0 r k)

/-- What a step stores is the flow of its batch. -/
theorem stored_apply (x : Vec Ideal S1x2048x128 .f32) (y : Vec Ideal S1x2048x32 .f32) (h : Vec Ideal S32x32 .f32)
    (c : Vec Ideal S1x1 .f32) (r : Fin 2048) (k : Fin 32) :
    stored x y h c (ix3 0 r k) = flow (rhs (adj (cor (inp x))) (c (ix2 0 0)) (wt h)) (tokB y) r k := by
  have e : stored x y h c (ix3 0 r k)
      = tok (steps (adjOf (corr x) (table x)) (k0_pay90 c) h (k0_pay91 y) (adjTokOf (corr x) (table x) y)) r k := by
    unfold stored tok
    pointwise [k0_pay1]
  have hp : adjTokOf (corr x) (table x) y = prod (adjOf (corr x) (table x)) (k0_pay91 y) := rfl
  have hy : tok (k0_pay91 y) = tokB y := by
    funext r k
    unfold tok tokB
    pointwise [k0_pay91]
  have hc : k0_pay90 c = c (ix2 0 0) := by
    pointwise [k0_pay90]
  rw [e, tok_steps _ _ _ _ hp, sq_adjOf, hy, hc]

end Cert.KernelIdeal.Flow

end
-- ==== Proof.Result.lean ====
/- The kernel's result as an array: batch by batch the network's flow. -/
module

public import proofs.«01_k».proof.Proof.Stored
public import Idealize.ShloMosaic.Lib.Pipeline.ValueKit

@[expose] public section

set_option maxRecDepth 65536

noncomputable section

namespace Cert.KernelIdeal.Result

open Cert.KernelIdeal Cert.KernelIdeal.Gen Cert.KernelIdeal.Body
open Idealize.ShloMosaic Idealize.ShloMosaic.TcCoe
open Idealize.SL Idealize.SL.Sem
open Cert.Net Cert.Normal Cert.KernelIdeal.Flow

variable (m : (ℓ : Loc nD τ sig) → Buf (Elt Ideal) ℓ)

/-- The windows' block indices at a point: the batch for the inputs per batch and the result, the whole array for the others. -/
theorem idx : ∀ t : Fin cfg0.N, win0_0.index t = ![t.val, 0, 0] ∧ win0_1.index t = ![t.val, 0, 0] ∧ win0_2.index t = ![0, 0]
    ∧ win0_3.index t = ![0, 0] ∧ win0_4.index t = ![t.val, 0, 0] := by decide +kernel

/-- The block of rows of a grid step is its batch. -/
theorem iblk_x (c : Dev nD) (t : Fin cfg0.N) (r : Fin 2048) (k : Fin 128) :
    iblk m c 0 t (ix3 0 r k) = V m c main_arg1 (ix3 (t.cast N_0) r k) := by
  blk_ext [iblk, idx t]
  rfl

/-- The block of tokens of a grid step is its batch. -/
theorem iblk_y (c : Dev nD) (t : Fin cfg0.N) (r : Fin 2048) (k : Fin 32) :
    iblk m c 1 t (ix3 0 r k) = V m c main_arg0 (ix3 (t.cast N_0) r k) := by
  blk_ext [iblk, idx t]
  rfl

/-- The weights are whole at every grid step. -/
theorem iblk_h (c : Dev nD) (t : Fin cfg0.N) (r : Fin 32) (k : Fin 32) : iblk m c 2 t (ix2 r k) = V m c main_arg2 (ix2 r k) := by
  blk_ext [iblk, idx t]

/-- The coefficient is the same at every grid step. -/
theorem iblk_c (c : Dev nD) (t : Fin cfg0.N) : iblk m c 3 t (ix2 0 0) = V m c main_call0_v2 (ix2 0 0) := by
  blk_ext [iblk, idx t]

/-- Where the result's block at a point lies in the result. -/
theorem emb_out (t : Fin cfg0.N) (y : S1x2048x32.Idx) :
    ((View.whole main_v0).slice (win0_4.rect t)).emb y = ix3 (t.cast N_0) (y 1) (y 2) := by
  blk_ext [idx t]
  rfl

/-- The coefficient, as the host forms it from its parameter: its softplus, at most 2. -/
def alphaV {F : FTy → Type} [FloatOps F] (a : Vec F S_ .f32) : Vec F S_ .f32 :=
  minimumf (select (cmpf .une (subf a (constant S_ .f32 0x00000000#32)) (subf a (constant S_ .f32 0x00000000#32)))
    (addf a (constant S_ .f32 0x00000000#32))
    (addf (maximumf a (constant S_ .f32 0x00000000#32))
      (Host.log1p (Host.exp (Host.negf (Host.absf (subf a (constant S_ .f32 0x00000000#32))))))))
    (constant S_ .f32 0x40000000#32)

/-- The coefficient the kernel is launched with is formed of the scalar argument. -/
theorem V_alpha (c : Dev nD) : V m c main_call0_v2 = shapeCast S1x1 (alphaV (m ((c : Thread nD τ).loc main_arg3))) shapeCasts_S_S1x1 := by
  unfold_abbrev_sides
  after_results
  rfl

/-- The same at its one index. -/
theorem V_alpha_at (c : Dev nD) : V m c main_call0_v2 (ix2 0 0) = alphaV (m ((c : Thread nD τ).loc main_arg3)) ix0 := by
  rw [V_alpha]
  pointwise

/-- The result as a function of the four arguments: batch by batch the network's flow. -/
def result (Y : Vec Ideal S4x2048x32 .f32) (X : Vec Ideal S4x2048x128 .f32) (H : Vec Ideal S32x32 .f32) (a : Vec Ideal S_ .f32) :
    Vec Ideal S4x2048x32 .f32 := fun j =>
  flow (rhs (adj (cor fun r k => X (ix3 (j 0) r k))) (alphaV a ix0) (wt H)) (fun r k => Y (ix3 (j 0) r k)) (j 1) (j 2)

/-- The array the pipeline leaves is `result` of the arguments. -/
theorem arr (c : Dev nD) : (dats m 0 c).arrAt 4 (cfgs 0).N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after_4]
  unfold outBlk
  frame_out
  rw [emb_out]
  have hy : y = ix3 0 (y 1) (y 2) := by blk_ext []
  have hx : inp (iblk m c 0 t) = fun r k => m ((c : Thread nD τ).loc main_arg1) (ix3 (t.cast N_0) r k) := by
    funext r k; exact (iblk_x m c t r k).trans (by rw [V_main_arg1])
  have ht : tokB (iblk m c 1 t) = fun r k => m ((c : Thread nD τ).loc main_arg0) (ix3 (t.cast N_0) r k) := by
    funext r k; exact (iblk_y m c t r k).trans (by rw [V_main_arg0])
  have hh : wt (iblk m c 2 t) = wt (m ((c : Thread nD τ).loc main_arg2)) := by
    funext r k; exact (iblk_h m c t r k).trans (by rw [V_main_arg2]; rfl)
  have hc : iblk m c 3 t (ix2 0 0) = alphaV (m ((c : Thread nD τ).loc main_arg3)) ix0 := (iblk_c m c t).trans (V_alpha_at m c)
  rw [hy]
  refine (stored_apply _ _ _ _ (y 1) (y 2)).trans ?_
  rw [hx, ht, hh, hc]
  rfl

/-- Every execution of the kernel ends with its result at `result` of the arguments, the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v0) = result (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 4).trans (arr m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩) (Cert.KernelIdeal.Body.run m ρ)

end Cert.KernelIdeal.Result

end
-- ==== Proof.RefCorr.lean ====
/- The reference's correlations: batch by batch those of the rows normalised. -/
module

public import proofs.«01_k».proof.Proof.Net
public import proofs.«01_k».proof.Proof.Gen.ReferenceIdeal.Run
public import Idealize.ShloMosaic.Lib.Pointwise

@[expose] public section

set_option maxRecDepth 65536

noncomputable section

namespace Cert.ReferenceIdeal.Read

open Cert.ReferenceIdeal Cert.ReferenceIdeal.Gen Cert.ReferenceIdeal.Value
open Idealize.ShloMosaic Idealize.ShloMosaic.StableHlo Idealize.ShloMosaic.TcCoe
open Cert.Net Cert.Normal

variable (V0 : Valuation τ sig (Elt Ideal))

/-- The rows of a batch's first operand, its tokens, and the weights. -/
def rows (b : Fin 4) : Inp := fun r k => V0 (Proc.devRef .tc main_arg1) (ix3 b r k)
def toks (b : Fin 4) : Tok := fun r k => V0 (Proc.devRef .tc main_arg0) (ix3 b r k)
def weights : Wt := fun r k => V0 (Proc.devRef .tc main_arg2) (ix2 r k)

/-- The rows centred. -/
theorem v5_at (b : Fin 4) (r : Fin 2048) (k : Fin 128) : res_main_v5 V0 (ix3 b r k) = centred (rows V0 b r) k := by
  unfold centred rows n128
  pointwise [res_main_v5]

/-- The rows centred a second time, inside the standard deviation. -/
theorem centred_at (b : Fin 4) (r : Fin 2048) (k : Fin 128) :
    res_main_call0_call0_v5 V0 (ix3 b r k) = centred (centred (rows V0 b r)) k := by
  rw [show centred (rows V0 b r) = fun k => res_main_v5 V0 (ix3 b r k) from funext fun k => (v5_at V0 b r k).symm]
  unfold centred n128
  pointwise [res_main_call0_call0_v5]

/-- The count of a row less one, a real number. -/
theorem count_less_one : Ideal.ofBits .f32 1124073472#32 - (FloatOps.sitofp (F := Ideal) .f32 (1#32 : BitVec 32)) = n127 := by
  have h1 : (FloatOps.sitofp (F := Ideal) .f32 (1#32 : BitVec 32)) = ((1 : ℝ) : EReal) := by
    show (((1#32 : BitVec 32).toInt : ℝ) : EReal) = _
    norm_num
  rw [h1, show Ideal.ofBits .f32 1124073472#32 = ((128 : ℝ) : EReal) from n128_eq, n127_eq, ← EReal.coe_sub]
  norm_num

/-- The rows normalised. -/
theorem v10_at (b : Fin 4) (r : Fin 2048) (k : Fin 128) : res_main_v10 V0 (ix3 b r k) = normal2 (rows V0 b r) k := by
  unfold normal2 dev
  simp only [← v5_at, ← centred_at]
  rw [← count_less_one]
  pointwise [res_main_v10, res_main_call0_call0_v8]
  rw [if_pos (by rw [count_less_one, n127_eq]; exact EReal.coe_pos.2 (by norm_num))]
  rfl

/-- The correlations. -/
theorem v14_at (b : Fin 4) (r s : Fin 2048) : res_main_v14 V0 (ix3 b r s) = cor (rows V0 b) r s := by
  rw [← cor_normal2]
  simp only [← v10_at]
  unfold n127
  pointwise [res_main_v14]

end Cert.ReferenceIdeal.Read

end
-- ==== Proof.RefMask.lean ====
/- The reference's mask: ones scattered at each row's first seventeen positions in descending order, zeros elsewhere. -/
module

public import proofs.«01_k».proof.Proof.RefCorr
public import proofs.«01_k».proof.Proof.TopSel
public import Idealize.ShloMosaic.Lib.Routing.OpsSet

@[expose] public section

set_option maxRecDepth 65536

noncomputable section

namespace Cert.ReferenceIdeal.Read

open Cert.ReferenceIdeal Cert.ReferenceIdeal.Gen Cert.ReferenceIdeal.Value
open Idealize.ShloMosaic Idealize.ShloMosaic.StableHlo Idealize.ShloMosaic.TcCoe
open Cert.Net Cert.Normal

variable (V0 : Valuation τ sig (Elt Ideal))

/-- The scatter's dimension numbers: three coordinates name an element, one update each. -/
abbrev cells : ScatterDims S4x2048x2048 S4x2048x17x3 S4x2048x17 := scatter_S4x2048x2048_S4x2048x17x3_S4x2048x17_n_012_012_3

/-- The position at which a row's `p`-th entry in descending order stands. -/
def place (b : Fin 4) (r : Fin 2048) (p : Fin 17) : Fin 2048 :=
  sortedFrom (fun k k' => FloatOps.cmpfTotal (F := Ideal) (φ := .f32) .gt (cor (rows V0 b) r k) (cor (rows V0 b) r k') == 1#1) (p.castLE (by omega))

/-- The positions of an array's greatest entries along its last axis, read at an index. -/
theorem topK_at (gt : EReal → EReal → BitVec 1) (x : S4x2048x2048.Idx → EReal) (h) (b : Fin 4) (r : Fin 2048) (p : Fin 17) :
    (Host.topK S4x2048x17 2 gt x h).2 (ix3 b r p)
      = BitVec.ofNat 32 (sortedFrom (fun k k' => gt (x (ix3 b r k)) (x (ix3 b r k')) == 1#1) (p.castLE (by omega) : Fin 2048)).val := by
  have ha : ∀ k : Fin 2048, (ix3 b r (⟨p.val, by omega⟩ : Fin 2048)).along (2 : Fin 3) k = ix3 b r k := fun k => by
    funext a
    fin_cases a <;> rfl
  unfold Host.topK
  dsimp only
  unfold Host.sort2
  pointwise
  simp only [ha]
  rfl

/-- The sorted positions, read at an index. -/
theorem indices_at (b : Fin 4) (r : Fin 2048) (p : Fin 17) : res_main_indices V0 (ix3 b r p) = BitVec.ofNat 32 (place V0 b r p).val := by
  unfold place
  simp only [← v14_at]
  exact topK_at _ (res_main_v14 V0) _ b r p

/-- The table of the three coordinates the ones are scattered at. -/
def coords : IVec S4x2048x17x3 32 := (concatenate S4x2048x17x3 3 [⟨S4x2048x17x1, ((broadcastInDim S4x2048x17x1 ![0, 1, 2] bcast_S4x2048x17_S4x2048x17x1_0_1_2 (broadcastInDim S4x2048x17 ![0, 1, 2] bcast_S4x1x1_S4x2048x17_0_1_2 (select (cmpi .slt (res_main_v16 V0) (broadcastInDim S4x1x1 ![] bcast_S_S4x1x1 (constantI S_ 32 0#32))) (addi (res_main_v16 V0) (broadcastInDim S4x1x1 ![] bcast_S_S4x1x1 (constantI S_ 32 4#32))) (res_main_v16 V0)))) : (⟨S4x2048x17x1, .i32⟩ : BufTy).Contents (Elt Ideal))⟩, ⟨S4x2048x17x1, ((broadcastInDim S4x2048x17x1 ![0, 1, 2] bcast_S4x2048x17_S4x2048x17x1_0_1_2 (broadcastInDim S4x2048x17 ![0, 1, 2] bcast_S1x2048x1_S4x2048x17_0_1_2 (select (cmpi .slt (res_main_v18 V0) (broadcastInDim S1x2048x1 ![] bcast_S_S1x2048x1 (constantI S_ 32 0#32))) (addi (res_main_v18 V0) (broadcastInDim S1x2048x1 ![] bcast_S_S1x2048x1 (constantI S_ 32 2048#32))) (res_main_v18 V0)))) : (⟨S4x2048x17x1, .i32⟩ : BufTy).Contents (Elt Ideal))⟩, ⟨S4x2048x17x1, ((broadcastInDim S4x2048x17x1 ![0, 1, 2] bcast_S4x2048x17_S4x2048x17x1_0_1_2 (select (cmpi .slt (res_main_indices V0) (broadcastInDim S4x2048x17 ![] bcast_S_S4x2048x17 (constantI S_ 32 0#32))) (addi (res_main_indices V0) (broadcastInDim S4x2048x17 ![] bcast_S_S4x2048x17 (constantI S_ 32 2048#32))) (res_main_indices V0))) : (⟨S4x2048x17x1, .i32⟩ : BufTy).Contents (Elt Ideal))⟩] concatenates_S4x2048x17x1_S4x2048x17x1_S4x2048x17x1_S4x2048x17x3_d3)

/-- The first scatter coordinate of an update is its batch. -/
theorem coords_0 (b : Fin 4) (r : Fin 2048) (p : Fin 17) : coords V0 (ix4 b r p 0) = BitVec.ofNat 32 b.val := by
  unfold coords
  pointwise [res_main_v16]
  exact Routing.wrap_of_lt _ _ (by rw [BitVec.toNat_ofNat]; have := b.isLt; omega)
/-- The second is its row. -/
theorem coords_1 (b : Fin 4) (r : Fin 2048) (p : Fin 17) : coords V0 (ix4 b r p 1) = BitVec.ofNat 32 r.val := by
  unfold coords
  pointwise [res_main_v18]
  exact Routing.wrap_of_lt _ _ (by rw [BitVec.toNat_ofNat]; have := r.isLt; omega)
/-- The third is the position selected. -/
theorem coords_2 (b : Fin 4) (r : Fin 2048) (p : Fin 17) : coords V0 (ix4 b r p 2) = BitVec.ofNat 32 (place V0 b r p).val := by
  unfold coords
  pointwise [indices_at]
  exact Routing.wrap_of_lt _ _ (by rw [BitVec.toNat_ofNat]; have := (place V0 b r p).isLt; omega)

/-- An update lands at an index when its three coordinates are that index. -/
theorem lands (idx : IVec S4x2048x17x3 32) (b' : Fin 4) (r' : Fin 2048) (p : Fin 17) (b : Fin 4) (r k : Fin 2048) :
    cells.resultIdx? (ix3 b' r' p) idx = some (ix3 b r k)
      ↔ (idx (ix4 b' r' p 0)).toInt = b.val ∧ (idx (ix4 b' r' p 1)).toInt = r.val ∧ (idx (ix4 b' r' p 2)).toInt = k.val := by
  have hw : ∀ q, cells.window (ix3 b' r' p) q = 0 := fun q => by
    unfold ScatterDims.window
    rw [dif_neg (by revert q; decide)]
  have hs0 : cells.start (ix3 b' r' p) idx 0 = (idx (ix4 b' r' p 0)).toInt := by
    unfold ScatterDims.start
    rw [dif_pos (by decide)]
    congr 2
    funext a
    fin_cases a <;> rfl
  have hs1 : cells.start (ix3 b' r' p) idx 1 = (idx (ix4 b' r' p 1)).toInt := by
    unfold ScatterDims.start
    rw [dif_pos (by decide)]
    congr 2
    funext a
    fin_cases a <;> rfl
  have hs2 : cells.start (ix3 b' r' p) idx 2 = (idx (ix4 b' r' p 2)).toInt := by
    unfold ScatterDims.start
    rw [dif_pos (by decide)]
    congr 2
    funext a
    fin_cases a <;> rfl
  rw [Routing.resultIdx?_eq_some]
  simp only [hw, Nat.cast_zero, add_zero]
  rw [← hs0, ← hs1, ← hs2]
  constructor
  · intro h; exact ⟨h 0, h 1, h 2⟩
  · rintro ⟨h0, h1, h2⟩ a
    fin_cases a
    · exact h0
    · exact h1
    · exact h2

/-- A small natural number is its word read as a signed integer. -/
theorem toInt_ofNat {n : ℕ} (h : n < 2 ^ 31) : (BitVec.ofNat 32 n).toInt = n := by
  exact WordCmp.toInt_ofNat_of_lt h

/-- An update lands at an element where its batch, its row and its entry's position are the element's. -/
theorem lands_coords (b' : Fin 4) (r' : Fin 2048) (p : Fin 17) (b : Fin 4) (r k : Fin 2048) :
    cells.resultIdx? (ix3 b' r' p) (coords V0) = some (ix3 b r k) ↔ b' = b ∧ r' = r ∧ place V0 b' r' p = k := by
  have h0 := b'.isLt
  have h1 := r'.isLt
  have h2 := (place V0 b' r' p).isLt
  rw [lands, coords_0, coords_1, coords_2, toInt_ofNat (by omega), toInt_ofNat (by omega), toInt_ofNat (by omega)]
  simp only [Fin.ext_iff, Nat.cast_inj]

/-- A row's order as the sort reads it. -/
theorem sort_order (b : Fin 4) (r x y : Fin 2048) :
    (FloatOps.cmpfTotal (F := Ideal) (φ := .f32) .gt (cor (rows V0 b) r x) (cor (rows V0 b) r y) == 1#1) = true
      ↔ cor (rows V0 b) r y < cor (rows V0 b) r x := by
  change (BitVec.ofBool (decide (cor (rows V0 b) r y < cor (rows V0 b) r x)) == 1#1) = true ↔ _
  rw [beq_iff_eq, WordCmp.ofBool_eq_one_iff, decide_eq_true_iff]

/-- The entries at the seventeen positions are those of rank less than seventeen. -/
theorem placed_iff (b : Fin 4) (r k : Fin 2048) : (∃ p, place V0 b r p = k) ↔ TopSel.rank (cor (rows V0 b) r) k < 17 := by
  rw [← TopSel.exists_position_iff (cor (rows V0 b) r) _ (sort_order V0 b r) 17 k]
  constructor
  · rintro ⟨p, h⟩
    exact ⟨_, p.isLt, h⟩
  · rintro ⟨q, hq, h⟩
    exact ⟨⟨q.val, hq⟩, h⟩

/-- The scattered ones, read at an element. -/
theorem scattered (b : Fin 4) (r k : Fin 2048) (z u : EReal) (x : S4x2048x2048.Idx → EReal) (hx : x (ix3 b r k) = z)
    (upd : S4x2048x17.Idx → EReal) (hu : ∀ i, upd i = u) :
    Host.scatter cells (fun _ b => b) x (coords V0) upd (ix3 b r k) = if TopSel.rank (cor (rows V0 b) r) k < 17 then u else z := by
  by_cases h : TopSel.rank (cor (rows V0 b) r) k < 17
  · obtain ⟨p, hp⟩ := (placed_iff V0 b r k).2 h
    rw [if_pos h]
    exact Routing.scatter_set_hit cells x (coords V0) upd (ix3 b r k) u (fun i _ => hu i) (ix3 b r p) ((lands_coords V0 b r p b r k).2 ⟨rfl, rfl, hp⟩)
  · rw [if_neg h, ← hx]
    refine Routing.scatter_set_miss cells x (coords V0) upd (ix3 b r k) fun i hi => h ?_
    rw [show i = ix3 (i 0) (i 1) (i 2) by funext a; fin_cases a <;> rfl] at hi
    obtain ⟨e0, e1, e2⟩ := (lands_coords V0 (i 0) (i 1) (i 2) b r k).1 hi
    rw [e0, e1] at e2
    exact (placed_iff V0 b r k).1 ⟨_, e2⟩

/-- The masked correlations. -/
theorem v43_at (b : Fin 4) (r k : Fin 2048) : res_main_v43 V0 (ix3 b r k) = mask (cor (rows V0 b)) r k := by
  have h : res_main_v43 V0 = mulf (res_main_v14 V0) (Host.scatter cells (fun _ b => b) (broadcastInDim S4x2048x2048 ![] bcast_S_S4x2048x2048 (constant S_ .f32 0x00000000#32)) (coords V0) (broadcastInDim S4x2048x17 ![] bcast_S_S4x2048x17 (constant S_ .f32 0x3F800000#32))) := rfl
  have hm : ∀ x y : FVec Ideal S4x2048x2048 .f32, mulf x y (ix3 b r k) = HMul.hMul (α := EReal) (β := EReal) (γ := EReal) (x (ix3 b r k)) (y (ix3 b r k)) := fun _ _ => rfl
  rw [h]
  refine (hm _ _).trans ?_
  rw [v14_at]
  refine (congrArg _ (scattered V0 b r k 0 1 _ (by pointwise) _ (fun i => by idx_vars i; pointwise))).trans ?_
  unfold mask
  split
  · rw [mul_one]
  · rw [mul_zero]

end Cert.ReferenceIdeal.Read

end
-- ==== Proof.RefAdj.lean ====
/- The reference's adjacency: batch by batch the normalised one of the masked correlations. -/
module

public import proofs.«01_k».proof.Proof.RefMask

@[expose] public section

set_option maxRecDepth 65536

noncomputable section

namespace Cert.ReferenceIdeal.Read

open Cert.ReferenceIdeal Cert.ReferenceIdeal.Gen Cert.ReferenceIdeal.Value
open Idealize.ShloMosaic Idealize.ShloMosaic.StableHlo Idealize.ShloMosaic.TcCoe
open Cert.Net Cert.Normal

variable (V0 : Valuation τ sig (Elt Ideal))

/-- The identity matrix's entry. -/
theorem eye_at (r k : Fin 2048) : FloatOps.uitofp (F := Ideal) .f32 (IntOp.cmpi .eq (IntOp.addi (BitVec.ofNat 32 r.val) 0#32) (BitVec.ofNat 32 k.val))
    = if r = k then (1 : EReal) else 0 := by
  have h1 := r.isLt
  have h2 := k.isLt
  have h0 : IntOp.addi (BitVec.ofNat 32 r.val) 0#32 = BitVec.ofNat 32 r.val := by unfold IntOp.addi; exact BitVec.add_zero _
  rw [h0, WordCmp.cmpi_eq_ofNat (by omega) (by omega)]
  by_cases h : r = k
  · subst h
    simp
    show ((1 : ℕ) : ℝ) = ((1 : ℝ) : EReal)
    norm_num
  · rw [if_neg h, decide_eq_false (by rwa [Fin.ext_iff] at h)]
    show (((BitVec.ofBool false).toNat : ℝ) : EReal) = 0
    norm_num

/-- The symmetric matrix. -/
theorem v56_at (b : Fin 4) (r k : Fin 2048) : res_main_v56 V0 (ix3 b r k) = sym (cor (rows V0 b)) r k := by
  unfold sym half
  rw [← eye_at, ← v43_at, ← v43_at, mul_comm]
  pointwise [res_main_v56]

/-- The correlations of a batch are real. -/
theorem real (b : Fin 4) (r k : Fin 2048) : IsReal (cor (rows V0 b) r k) := by
  obtain ⟨C, h, -⟩ := cor_real (rows V0 b)
  exact ⟨_, h r k⟩

/-- The degrees to the power -1/2. -/
theorem v60_at (b : Fin 4) (r : Fin 2048) : res_main_v60 V0 (ix2 b r) = Ideal.rsqrt (deg (cor (rows V0 b)) r) := by
  rw [← pow_deg (real V0 b)]
  unfold deg eps
  simp only [← v56_at]
  rw [max_comm]
  pointwise [res_main_v60]
  rfl

/-- The adjacency. -/
theorem v66_at (b : Fin 4) (r k : Fin 2048) : res_main_v66 V0 (ix3 b r k) = adj (cor (rows V0 b)) r k := by
  unfold adj
  rw [mul_comm (sym _ r k), ← v60_at, ← v60_at, ← v56_at]
  pointwise [res_main_v66]

/-- The identity less the adjacency. -/
theorem v75_at (b : Fin 4) (r k : Fin 2048) :
    res_main_v75 V0 (ix3 b r k) = (if r = k then 1 else 0) - adj (cor (rows V0 b)) r k := by
  rw [← eye_at, ← v66_at]
  pointwise [res_main_v75]

end Cert.ReferenceIdeal.Read

end
-- ==== Proof.RefFlow.lean ====
/- The reference's result: four steps of the flow through its adjacency, cut at zero, batch by batch. -/
module

public import proofs.«01_k».proof.Proof.RefAdj

@[expose] public section

set_option maxRecDepth 65536

noncomputable section

namespace Cert.ReferenceIdeal.Read

open Cert.ReferenceIdeal Cert.ReferenceIdeal.Gen Cert.ReferenceIdeal.Value
open Idealize.ShloMosaic Idealize.ShloMosaic.StableHlo Idealize.ShloMosaic.TcCoe
open Cert.Net Cert.Normal

section
variable {F : FTy → Type} [FloatOps F] (V0 : Valuation τ sig (Elt F))

/-- The right-hand side at an array of tokens, as the reference forms it. -/
def rhsR (y : FVec F S4x2048x32 .f32) : FVec F S4x2048x32 .f32 :=
  addf (mulf (broadcastInDim S4x2048x32 ![] bcast_S_S4x2048x32 (res_main_v77 V0)) (Host.dotGeneral dot_S4x2048x2048_S4x2048x32_S4x2048x32_2_1_1_2_0_0 none (res_main_v75 V0) y)) (Host.dotGeneral dot_S4x2048x32_S32x32_S4x2048x32_2_0_01_1_n_n none (Host.dotGeneral dot_S4x2048x2048_S4x2048x32_S4x2048x32_2_1_1_2_0_0 none (res_main_v66 V0) y) (transpose S32x32 [1, 0] (V0 (Proc.devRef .tc main_arg2)) transposes_S32x32_S32x32_1_0))

/-- A multiple of an array, and an array plus one. -/
def timesR (w : BitVec 32) (k : FVec F S4x2048x32 .f32) : FVec F S4x2048x32 .f32 :=
  mulf (broadcastInDim S4x2048x32 ![] bcast_S_S4x2048x32 (constant S_ .f32 w)) k
def plusR (w : BitVec 32) (y k : FVec F S4x2048x32 .f32) : FVec F S4x2048x32 .f32 := addf y (timesR w k)

/-- The three inner points of a step, and the step. -/
def at2 (y : FVec F S4x2048x32 .f32) := plusR 0x3CCCCCCD#32 y (rhsR V0 y)
def at3 (y : FVec F S4x2048x32 .f32) := plusR 0x3CCCCCCD#32 y (rhsR V0 (at2 V0 y))
def at4 (y : FVec F S4x2048x32 .f32) := plusR 0x3D4CCCCD#32 y (rhsR V0 (at3 V0 y))
def stepR (y : FVec F S4x2048x32 .f32) : FVec F S4x2048x32 .f32 :=
  plusR 0x3C088889#32 y (addf (addf (addf (rhsR V0 y) (timesR 0x40000000#32 (rhsR V0 (at2 V0 y)))) (timesR 0x40000000#32 (rhsR V0 (at3 V0 y)))) (rhsR V0 (at4 V0 y)))

/-- The result as the reference's run states it. -/
def resR : FVec F S4x2048x32 .f32 :=
  maximumf (addf (res_main_v218 V0) (mulf (broadcastInDim S4x2048x32 ![] bcast_S_S4x2048x32 (constant S_ .f32 0x3C088889#32)) (addf (addf (addf (res_main_v225 V0) (mulf (broadcastInDim S4x2048x32 ![] bcast_S_S4x2048x32 (constant S_ .f32 0x40000000#32)) (res_main_v235 V0))) (mulf (broadcastInDim S4x2048x32 ![] bcast_S_S4x2048x32 (constant S_ .f32 0x40000000#32)) (res_main_v245 V0))) (addf (mulf (broadcastInDim S4x2048x32 ![] bcast_S_S4x2048x32 (res_main_v77 V0)) (Host.dotGeneral dot_S4x2048x2048_S4x2048x32_S4x2048x32_2_1_1_2_0_0 none (res_main_v75 V0) (res_main_v248 V0))) (Host.dotGeneral dot_S4x2048x32_S32x32_S4x2048x32_2_0_01_1_n_n none (Host.dotGeneral dot_S4x2048x2048_S4x2048x32_S4x2048x32_2_1_1_2_0_0 none (res_main_v66 V0) (res_main_v248 V0)) (transpose S32x32 [1, 0] (V0 (Proc.devRef .tc main_arg2)) transposes_S32x32_S32x32_1_0)))))) (broadcastInDim S4x2048x32 ![] bcast_S_S4x2048x32 (constant S_ .f32 0x00000000#32))

/-- The first step is `stepR` of the tokens. -/
theorem step1 : res_main_v124 V0 = stepR V0 (V0 (Proc.devRef .tc main_arg0)) := rfl
/-- The second is `stepR` of what the first leaves. -/
theorem step2 : res_main_v171 V0 = stepR V0 (res_main_v124 V0) := rfl
/-- The third is `stepR` of what the second leaves. -/
theorem step3 : res_main_v218 V0 = stepR V0 (res_main_v171 V0) := rfl
/-- The result is the fourth, cut at zero. -/
theorem step4 : resR V0 = maximumf (stepR V0 (res_main_v218 V0)) (broadcastInDim S4x2048x32 ![] bcast_S_S4x2048x32 (constant S_ .f32 0x00000000#32)) := rfl

/-- The result is four steps from the tokens, cut at zero. -/
theorem resR_eq : resR V0 = maximumf (stepR V0 (stepR V0 (stepR V0 (stepR V0 (V0 (Proc.devRef .tc main_arg0)))))) (broadcastInDim S4x2048x32 ![] bcast_S_S4x2048x32 (constant S_ .f32 0x00000000#32)) := by
  rw [step4, step3, step2, step1]
end

variable (V0 : Valuation τ sig (Elt Ideal))

/-- A batch of an array of tokens. -/
def tokR (b : Fin 4) (y : FVec Ideal S4x2048x32 .f32) : Tok := fun r k => y (ix3 b r k)

/-- The right-hand side of a batch. -/
def fieldR (b : Fin 4) : Tok → Tok := rhs2 (adj (cor (rows V0 b))) (res_main_v77 V0 ix0) (weights V0)

/-- A batch of the right-hand side is the right-hand side of the batch. -/
theorem tok_rhsR (b : Fin 4) (y : FVec Ideal S4x2048x32 .f32) : tokR b (rhsR V0 y) = fieldR V0 b (tokR b y) := by
  funext r k
  unfold fieldR rhs2 tokR weights
  have h : ∀ x, ((if r = x then (1 : EReal) else 0) - adj (cor (rows V0 b)) r x : EReal) = res_main_v75 V0 (ix3 b r x) :=
    fun x => (v75_at V0 b r x).symm
  simp only [h]
  simp only [← v66_at]
  pointwise [rhsR]

/-- A batch of a sum with a multiple is that of the batches. -/
theorem tok_plusR (b : Fin 4) (w : BitVec 32) (y k : FVec Ideal S4x2048x32 .f32) :
    tokR b (plusR w y k) = axpy (Ideal.ofBits .f32 w) (tokR b y) (tokR b k) := by
  funext r x
  unfold axpy tokR
  pointwise [plusR, timesR]

/-- A batch of the weighted sum of slopes is that of the batches. -/
theorem tok_slopesR (b : Fin 4) (k1 k2 k3 k4 : FVec Ideal S4x2048x32 .f32) :
    tokR b (addf (addf (addf k1 (timesR 0x40000000#32 k2)) (timesR 0x40000000#32 k3)) k4) = slopes (tokR b k1) (tokR b k2) (tokR b k3) (tokR b k4) := by
  funext r x
  unfold slopes two tokR
  pointwise [timesR]

/-- A batch of a step is the step of the batch. -/
theorem tok_stepR (b : Fin 4) (y : FVec Ideal S4x2048x32 .f32) : tokR b (stepR V0 y) = step (fieldR V0 b) (tokR b y) := by
  unfold stepR at4 at3 at2
  simp only [tok_plusR, tok_slopesR, tok_rhsR]
  rfl

/-- The reference's result at an index. -/
theorem resR_at (b : Fin 4) (r : Fin 2048) (k : Fin 32) : resR V0 (ix3 b r k) = flow (fieldR V0 b) (toks V0 b) r k := by
  have h : toks V0 b = tokR b (V0 (Proc.devRef .tc main_arg0)) := rfl
  unfold flow
  rw [h, ← tok_stepR, ← tok_stepR, ← tok_stepR, ← tok_stepR, resR_eq]
  unfold tokR
  pointwise

end Cert.ReferenceIdeal.Read

end
-- ==== Proof.Alpha.lean ====
/- The coefficient both programs form of the scalar argument, its softplus cut at two: a real number, whatever the argument. -/
module

public import proofs.«01_k».proof.Proof.Result
public import proofs.«01_k».proof.Proof.RefFlow

@[expose] public section

set_option maxRecDepth 65536

noncomputable section

namespace Cert.Alpha

open Idealize.ShloMosaic Idealize.ShloMosaic.StableHlo Idealize.ShloMosaic.TcCoe
open Cert.Net Cert.Normal Cert.KernelIdeal.Result

/-- The logarithm of a real number from one up is not negative. -/
theorem log_nonneg {r : ℝ} (h : 1 ≤ r) : 0 ≤ Ideal.log (r : EReal) := by
  have n : ¬ r ≤ 0 := by linarith
  have e : Ideal.log (r : EReal) = if r ≤ 0 then ⊥ else (Real.log r : EReal) := rfl
  rw [e, if_neg n]
  exact_mod_cast Real.log_nonneg h

/-- `log (1 + exp t)` is not negative. -/
theorem log_exp_nonneg (t : EReal) : 0 ≤ Ideal.log1p (Ideal.exp t) := by
  have one : ∀ r : ℝ, Ideal.log1p (r : EReal) = Ideal.log ((1 + r : ℝ) : EReal) := fun r => by
    unfold Ideal.log1p
    norm_cast
  induction t using EReal.rec with
  | bot =>
    have e : Ideal.exp ⊥ = ((0 : ℝ) : EReal) := rfl
    rw [e, one]
    exact log_nonneg (by norm_num)
  | top =>
    have e : Ideal.log1p (Ideal.exp ⊤) = Ideal.log (1 + ⊤) := rfl
    have l : Ideal.log ⊤ = ⊤ := rfl
    rw [e, EReal.add_top_of_ne_bot (x := (1 : EReal)) (EReal.coe_ne_bot 1), l]
    exact le_top
  | coe r =>
    have e : Ideal.exp (r : EReal) = (Real.exp r : EReal) := rfl
    rw [e, one]
    exact log_nonneg (by linarith [Real.exp_pos r])

/-- The lesser of a value not below zero and a real number is real. -/
theorem isReal_min {x y : EReal} (hx : 0 ≤ x) (hy : IsReal y) : IsReal (min x y) := by
  obtain ⟨b, rfl⟩ := hy
  rcases inf_or_real x with (rfl | rfl) | ⟨a, rfl⟩
  · exact ⟨b, by simp⟩
  · simp at hx
  · exact IsReal.min ⟨a, rfl⟩ ⟨b, rfl⟩

/-- The coefficient is real. -/
theorem alpha_real (a : Vec Ideal Cert.KernelIdeal.S_ .f32) : IsReal (alphaV a ix0) := by
  have h : alphaV a ix0 = min (max (a ix0) 0 + Ideal.log1p (Ideal.exp (-(max (a ix0 - 0 : EReal) (-(a ix0 - 0 : EReal)))))) two := by
    unfold two
    pointwise [alphaV]
    simp only [ne_eq, not_true, if_false]
    rfl
  rw [h]
  exact isReal_min (add_nonneg (le_max_right _ _) (log_exp_nonneg _)) (ofBits_real _ (by decide))

/-- The reference forms the same coefficient. -/
theorem alpha_ref (V0 : Valuation Cert.ReferenceIdeal.τ Cert.ReferenceIdeal.sig (Elt Ideal)) :
    Cert.ReferenceIdeal.Value.res_main_v77 V0 = alphaV (V0 (Proc.devRef .tc Cert.ReferenceIdeal.main_arg3)) := rfl

end Cert.Alpha

end
-- ==== Proof.Tie.lean ====
/- The reference's result is the kernel's, of arguments that meet the precondition. -/
module

public import proofs.«01_k».proof.Proof.Alpha

@[expose] public section

set_option maxRecDepth 65536

noncomputable section

namespace Cert.Tie

open Idealize.ShloMosaic Idealize.ShloMosaic.StableHlo Idealize.ShloMosaic.TcCoe
open Cert.Net Cert.Normal Cert.KernelIdeal.Result Cert.ReferenceIdeal Cert.ReferenceIdeal.Read Cert.Alpha

variable (V0 : Valuation τ sig (Elt Ideal))

/-- Of finite tokens and weights, the flow through `1 − a` formed first is the flow through `a`. -/
theorem tie (Y : Vec Ideal S4x2048x32 .f32) (X : Vec Ideal S4x2048x128 .f32) (H : Vec Ideal S32x32 .f32) (a : Vec Ideal S_ .f32)
    (hY : V0 (Proc.devRef .tc main_arg0) = Y) (hX : V0 (Proc.devRef .tc main_arg1) = X) (hH : V0 (Proc.devRef .tc main_arg2) = H)
    (ha : V0 (Proc.devRef .tc main_arg3) = a) (fY : ∀ j, IsReal (Y j)) (fH : ∀ j, IsReal (H j)) : resR V0 = result Y X H a := by
  subst hY hX hH ha
  funext j
  obtain ⟨b, r, k, rfl⟩ : ∃ b r k, j = ix3 b r k := ⟨j 0, j 1, j 2, eq_ix3 j⟩
  rw [resR_at]
  have hA := adj_real (real V0 b)
  have e := flow_congr (f := rhs (adj (cor (rows V0 b))) (Value.res_main_v77 V0 ix0) (weights V0)) (g := fieldR V0 b)
    (fun y hy => rhs_finite hA (by rw [alpha_ref]; exact alpha_real _) (fun r k => fH _) hy)
    (fun y hy => rhs2_eq hA _ _ hy) (y := toks V0 b) (fun r k => fY _)
  rw [e, alpha_ref]
  rfl

end Cert.Tie

end
-- ==== Proof.lean ====
module

public import proofs.«01_k».proof.Defs
public import proofs.«01_k».proof.Proof.FloatBody
public import proofs.«01_k».proof.Proof.IdealBody
public import proofs.«01_k».proof.Proof.Gen.ReferenceIdeal.Run
public import proofs.«01_k».proof.Proof.Gen.Pre_tokens_and_theta_finite
public import proofs.«01_k».proof.Proof.Pre
public import proofs.«01_k».proof.Proof.Tie
public import Idealize.ShloMosaic.Lib.Claim
public import Idealize.ShloMosaic.Lib.Quiescent

@[expose] public section

noncomputable section

namespace Cert.Proof

open Idealize.ShloMosaic Idealize.SL.Sem

/-- The kernel terminates without fault, leaves its arguments and ends with every counter at zero. -/
theorem frame_p : Cert.quiescent_Kernel := fun m ρ _ => Cert.Kernel.Body.frame_quiet m ρ

/-- The same of its idealization. -/
theorem frame_pi : Cert.quiescent_KernelIdeal := fun m ρ _ => Cert.KernelIdeal.Body.frame_quiet m ρ

/-- The same of the idealized reference, which declares no semaphore. -/
theorem frame_ri : Cert.quiescent_ReferenceIdeal := fun m ρ _ =>
  θ_run_mono (Cert.ReferenceIdeal.Value.run m ρ) fun r h => ⟨fun c => (h c).2, sem_eq_zero_of_no_sems rfl r.2⟩

/-- The one constant the idealization names, the float nearest to 1/127, is what it is named for. -/
theorem preserves_p : Cert.preserves_Kernel_KernelIdeal :=
  IdealRules.named_const.statement _ _ .f32 0x3C010204#32 _ rfl

/-- On the reals, of finite tokens and weights, the kernel and the reference leave one result and their arguments as they were. -/
theorem algebraic_p : Cert.algebraic_KernelIdeal_ReferenceIdeal_pre_tokens_and_theta_finite := by
  intro m g m' g' hpre hagree
  refine ⟨fun c => Cert.KernelIdeal.Result.result (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3)),
    Cert.KernelIdeal.Result.run m g, θ_run_mono (Cert.ReferenceIdeal.Value.run m' g') fun r h c => ⟨(h c).1.trans ?_, (h c).2⟩⟩
  obtain ⟨h0, h1, h2, h3⟩ := hagree c
  obtain ⟨fY, fH⟩ := Cert.Pre.decode (hpre c)
  exact Cert.Tie.tie (StableHlo.launchContents m' c) _ _ _ _ h0 h1 h2 h3 fY fH

/-- All of it. -/
theorem claim : Cert.Claim :=
  ⟨Cert.Kernel.Gen.facts, Cert.KernelIdeal.Gen.facts, Cert.ReferenceIdeal.Gen.facts, Cert.Pre_tokens_and_theta_finite.Gen.facts,
    frame_p, frame_pi, fun m ρ _ => Cert.KernelIdeal.Body.frame_quiet m ρ, frame_ri, fun m ρ _ => frame_ri m ρ trivial, preserves_p, algebraic_p⟩

end Cert.Proof

end
